-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![32768, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![32768, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S2x1040x1024 : Shape := ⟨3, ![2, 1040, 1024]⟩
abbrev S2x1024x1024 : Shape := ⟨3, ![2, 1024, 1024]⟩
abbrev S2x8x1024 : Shape := ⟨3, ![2, 8, 1024]⟩
abbrev S3x8x1024 : Shape := ⟨3, ![3, 8, 1024]⟩
abbrev S2 : Shape := ⟨1, ![2]⟩
abbrev S1 : Shape := ⟨1, ![1]⟩
abbrev S_ : Shape := ⟨0, ![]⟩
abbrev S1x1040x1024 : Shape := ⟨3, ![1, 1040, 1024]⟩
abbrev S1040x1024 : Shape := ⟨2, ![1040, 1024]⟩
abbrev S1x1032x1024 : Shape := ⟨3, ![1, 1032, 1024]⟩
abbrev S1032x1024 : Shape := ⟨2, ![1032, 1024]⟩
abbrev S1x8x1024 : Shape := ⟨3, ![1, 8, 1024]⟩
abbrev S8x1024 : Shape := ⟨2, ![8, 1024]⟩
abbrev S1x1024x1024 : Shape := ⟨3, ![1, 1024, 1024]⟩
abbrev S1024x1024 : Shape := ⟨2, ![1024, 1024]⟩
abbrev S1x2x1024 : Shape := ⟨3, ![1, 2, 1024]⟩
abbrev S2x1024 : Shape := ⟨2, ![2, 1024]⟩
abbrev S1016x1024 : Shape := ⟨2, ![1016, 1024]⟩
abbrev S1x1016x1024 : Shape := ⟨3, ![1, 1016, 1024]⟩
abbrev S1x1x1024 : Shape := ⟨3, ![1, 1, 1024]⟩
abbrev S1x1024 : Shape := ⟨2, ![1, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .local _ .vmem, ⟨0, _⟩ => ⟨S2x1040x1024, .f32⟩
  | .local _ .vmem, ⟨1, _⟩ => ⟨S2x1024x1024, .f32⟩
  | .local _ .vmem, ⟨2, _⟩ => ⟨S2x8x1024, .f32⟩
  | .local _ .vmem, ⟨3, _⟩ => ⟨S3x8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_14 : BitVec 32 := 1#32
  let v18 : BitVec 32 := Scalar.muli v4 c1_i32_14
  let v19 : BitVec 32 := Scalar.addi c0_i32_15 v18
  v19.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_17 : BitVec 32 := 1#32
  let v20 : BitVec 32 := Scalar.muli v6 c1_i32_17
  let v21 : BitVec 32 := Scalar.addi c0_i32_18 v20
  v21.toNat
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_22 : BitVec 32 := 1#32
  let v22 : BitVec 32 := Scalar.muli v6 c1_i32_22
  let v23 : BitVec 32 := Scalar.addi c0_i32_23 v22
  v23.toNat
def k0_dev4 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_30 : BitVec 32 := 1#32
  let v31 : BitVec 32 := Scalar.muli v4 c1_i32_30
  let v32 : BitVec 32 := Scalar.addi c0_i32_31 v31
  v32.toNat
-- ==== ReferenceIdeal.lean ====
abbrev S32768x1024 : Shape := ⟨2, ![32768, 1024]⟩
abbrev S32766x1024 : Shape := ⟨2, ![32766, 1024]⟩
abbrev S_ : Shape := ⟨0, ![]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32766x1024, .f32⟩
  | .hbm, ⟨2, _⟩ => ⟨S_, .f32⟩
  | .hbm, ⟨3, _⟩ => ⟨S32766x1024, .f32⟩
  | .hbm, ⟨4, _⟩ => ⟨S32766x1024, .f32⟩
  | .hbm, ⟨5, _⟩ => ⟨S32766x1024, .f32⟩
  | .hbm, ⟨6, _⟩ => ⟨S_, .f32⟩
  | .hbm, ⟨7, _⟩ => ⟨S32766x1024, .f32⟩
  | .hbm, ⟨8, _⟩ => ⟨S32766x1024, .f32⟩
  | .hbm, ⟨9, _⟩ => ⟨S32766x1024, .f32⟩
  | .hbm, ⟨10, _⟩ => ⟨S32766x1024, .f32⟩
  | .hbm, ⟨11, _⟩ => ⟨S_, .f32⟩
  | .hbm, ⟨12, _⟩ => ⟨S32766x1024, .f32⟩
  | .hbm, ⟨13, _⟩ => ⟨S32766x1024, .f32⟩
  | .hbm, ⟨14, _⟩ => ⟨S32766x1024, .f32⟩
  | .hbm, ⟨15, _⟩ => ⟨S1x1024, .f32⟩
  | .hbm, ⟨16, _⟩ => ⟨S1x1024, .f32⟩
  | .hbm, ⟨17, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Proof.Protocol.lean ====
/-
The stencil's communication protocol: the ring of eight devices, the semaphore cells the devices share, what each
semaphore's round hands over, and what each device owes.

Every device holds 4096 rows of `x`. Its first output row needs the last row of the device to its left, its last output
row the first row of the device to its right (devices 0 and 7 sit at the array's two ends and copy those rows). The devices
exchange eight rows in each direction:

  * the BARRIER cell of a device receives one unit from each neighbour. A neighbour's unit says that its landing place is
    free, and hands that place over: the right neighbour's first landing place, the left neighbour's second;
  * the copy to the right (rows 4088 to 4095 into the right neighbour's first landing place) is credited on this device's
    first send cell, which returns the source rows, and on the right neighbour's first receive cell, which hands over the
    landing place filled;
  * the copy to the left (rows 0 to 7 into the left neighbour's second landing place) likewise, on the second cells.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ValueIdx

@[expose] public section

noncomputable section

namespace Cert.Stencil

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's cells, the ring's cells, the counters of the transfers within a device -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The ring cells' rounds live in the middle component. -/
def ER : Emb UB (MT nD τ sig Unit (Elt F) ℕ UU ℕ) := (Emb.inl : Emb UB (UB × Counters)).trans embR
instance ER_landsIn : (ER : Emb UB 𝕄).LandsIn (upEmb : UEmb _ 𝕄) := by unfold ER; infer_instance

variable (m : (ℓ : Loc nD τ sig) → Buf (Elt F) ℓ)

/-! ## The ring of devices -/

set_option backward.proofsInPublic true in
/-- The device to the right. -/
def nxt (c : Dev nD) : Dev nD := ⟨(c.val + 1) % 8, Nat.mod_lt _ (by decide)⟩
set_option backward.proofsInPublic true in
/-- The device to the left. -/
def prv (c : Dev nD) : Dev nD := ⟨(c.val + 7) % 8, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide

/-- The first signal and the second copy are addressed to the left, the second signal and the first copy to the right. -/
theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = prv c := Fin.ext (k0_dev4_eq c)

def ring : Dev nD ≃ Dev nD := ⟨nxt, prv, prv_nxt, nxt_prv⟩

/-! ## The buffers and the rows exchanged -/

abbrev xM : Memref sig .tc .hbm S4096x1024 .f32 := Memref.whole main_arg0
abbrev oM : Memref sig .tc .hbm S4096x1024 .f32 := Memref.whole main_v1
abbrev inM : Memref sig .tc .vmem S2x1040x1024 .f32 := Memref.whole cc0_scratch0
abbrev outM : Memref sig .tc .vmem S2x1024x1024 .f32 := Memref.whole cc0_scratch1
abbrev haloM : Memref sig .tc .vmem S2x8x1024 .f32 := Memref.whole cc0_scratch2
abbrev edgeM : Memref sig .tc .vmem S3x8x1024 .f32 := Memref.whole cc0_scratch3

/-- The first landing place, filled by the left neighbour; -/
abbrev landL : Memref sig .tc .vmem S8x1024 .f32 :=
  (haloM.slice (Rect.unit (s := S2x8x1024) ![0, 0, 0] S1x8x1024.size inb_S2x8x1024_S1x8x1024_0_0_0) (fun _ => rfl)).squeeze S8x1024 squeezes_S1x8x1024_S8x1024
/-- the second, filled by the right neighbour. -/
abbrev landR : Memref sig .tc .vmem S8x1024 .f32 :=
  (haloM.slice (Rect.unit (s := S2x8x1024) ![1, 0, 0] S1x8x1024.size inb_S2x8x1024_S1x8x1024_1_0_0) (fun _ => rfl)).squeeze S8x1024 squeezes_S1x8x1024_S8x1024
/-- The last eight rows of `x`, sent to the right; -/
abbrev lastRows : Memref sig .tc .hbm S8x1024 .f32 :=
  xM.slice (Rect.unit (s := S4096x1024) ![4088, 0] S8x1024.size inb_S4096x1024_S8x1024_4088_0) (fun _ => rfl)
/-- the first eight, sent to the left. -/
abbrev firstRows : Memref sig .tc .hbm S8x1024 .f32 :=
  xM.slice (Rect.unit (s := S4096x1024) ![0, 0] S8x1024.size inb_S4096x1024_S8x1024_0_0) (fun _ => rfl)

/-- Device `c`'s block of `x`. -/
abbrev X (c : Dev nD) : (main_arg0 : Ref sig .tc).ty.Contents (Elt F) := m ((c : Thread nD τ).loc main_arg0)

set_option backward.proofsInPublic true in
/-- Both landing places filled: the left neighbour's last eight rows, the right neighbour's first eight. -/
def halo (c : Dev nD) : (cc0_scratch2 : Ref sig .tc).ty.Contents (Elt F) := fun i =>
  if (i 0).val = 0 then X m (prv c) (ix2 (n0 := 4096) (n1 := 1024) ⟨4088 + (i 1).val, by have h : (i 1).val < 8 := (i 1).isLt; omega⟩ ⟨(i 2).val, (i 2).isLt⟩)
  else X m (nxt c) (ix2 (n0 := 4096) (n1 := 1024) ⟨(i 1).val, by have h : (i 1).val < 8 := (i 1).isLt; omega⟩ ⟨(i 2).val, (i 2).isLt⟩)

/-! ## The semaphores -/

/-- The machine's barrier semaphore; -/
abbrev barS : Sem sig := (SemArray.scalar (sig.barrier 0 rfl) : Sems sig S_).sem
/-- the send semaphores of the copies to the right and to the left; -/
abbrev sendR : DmaSem sig := ((cc0_scratch6.slice (Rect.unit (s := S2) ![0] S1.size inb_S2_S1_0)).squeeze S_ squeezes_S1_S_).sem
abbrev sendL : DmaSem sig := ((cc0_scratch6.slice (Rect.unit (s := S2) ![1] S1.size inb_S2_S1_1)).squeeze S_ squeezes_S1_S_).sem
/-- the receive semaphores of the copies from the left and from the right; -/
abbrev recvL : DmaSem sig := ((cc0_scratch7.slice (Rect.unit (s := S2) ![0] S1.size inb_S2_S1_0)).squeeze S_ squeezes_S1_S_).sem
abbrev recvR : DmaSem sig := ((cc0_scratch7.slice (Rect.unit (s := S2) ![1] S1.size inb_S2_S1_1)).squeeze S_ squeezes_S1_S_).sem
/-- the semaphores of the copies within the device: in, out, edge. -/
abbrev in0 : DmaSem sig := ((cc0_scratch4.slice (Rect.unit (s := S2) ![0] S1.size inb_S2_S1_0)).squeeze S_ squeezes_S1_S_).sem
abbrev in1 : DmaSem sig := ((cc0_scratch4.slice (Rect.unit (s := S2) ![1] S1.size inb_S2_S1_1)).squeeze S_ squeezes_S1_S_).sem
abbrev out0 : DmaSem sig := ((cc0_scratch5.slice (Rect.unit (s := S2) ![0] S1.size inb_S2_S1_0)).squeeze S_ squeezes_S1_S_).sem
abbrev out1 : DmaSem sig := ((cc0_scratch5.slice (Rect.unit (s := S2) ![1] S1.size inb_S2_S1_1)).squeeze S_ squeezes_S1_S_).sem
abbrev edge0 : DmaSem sig := ((cc0_scratch8.slice (Rect.unit (s := S2) ![0] S1.size inb_S2_S1_0)).squeeze S_ squeezes_S1_S_).sem
abbrev edge1 : DmaSem sig := ((cc0_scratch8.slice (Rect.unit (s := S2) ![1] S1.size inb_S2_S1_1)).squeeze S_ squeezes_S1_S_).sem

abbrev barCell (c : Dev nD) : GSem nD τ sig := ((c : Thread nD τ), .reg barS)
abbrev sendRCell (c : Dev nD) : GSem nD τ sig := ((c : Thread nD τ), .dma sendR)
abbrev sendLCell (c : Dev nD) : GSem nD τ sig := ((c : Thread nD τ), .dma sendL)
abbrev recvLCell (c : Dev nD) : GSem nD τ sig := ((c : Thread nD τ), .dma recvL)
abbrev recvRCell (c : Dev nD) : GSem nD τ sig := ((c : Thread nD τ), .dma recvR)

/-- The kernel's own semaphores, as the launch lists them; -/
abbrev osem : Fin 10 → SemLoc sig := fun
  | 0 => .dma sendR | 1 => .dma sendL | 2 => .dma recvL | 3 => .dma recvR
  | 4 => .dma in0 | 5 => .dma in1 | 6 => .dma out0 | 7 => .dma out1 | 8 => .dma edge0 | 9 => .dma edge1
/-- the five whose cells the ring's protocol manages. -/
abbrev csem : Fin 5 → SemLoc sig := fun
  | 0 => .reg barS | 1 => .dma sendR | 2 => .dma sendL | 3 => .dma recvL | 4 => .dma recvR
abbrev kcell (ck : Dev nD × Fin 5) : GSem nD τ sig := ((ck.1 : Thread nD τ), csem ck.2)

/-- The credit of one copy of eight rows. -/
abbrev N : ℕ := (landL : Memref sig .tc .vmem S8x1024 .f32).view.dmaCredit
theorem N_pos : 0 < N := View.dmaCredit_pos _ (by decide)

/-! ## What the cells hand over -/

/-- Device `c`'s first landing place, holding `f`; -/
def landLPts (c : Dev nD) (f : Buf (Elt F) ((landL : Memref sig .tc .vmem S8x1024 .f32).view.loc (c : Thread nD τ))) : sProp 𝕄 :=
  (landL : Memref sig .tc .vmem S8x1024 .f32).view.loc (c : Thread nD τ) ↦[(landL : Memref sig .tc .vmem S8x1024 .f32).view.set]{fullShare} f
/-- its second. -/
def landRPts (c : Dev nD) (f : Buf (Elt F) ((landR : Memref sig .tc .vmem S8x1024 .f32).view.loc (c : Thread nD τ))) : sProp 𝕄 :=
  (landR : Memref sig .tc .vmem S8x1024 .f32).view.loc (c : Thread nD τ) ↦[(landR : Memref sig .tc .vmem S8x1024 .f32).view.set]{fullShare} f

/-- The shares of `x` its four readers take: the copies in of either input slot, the copies to the right and to the left. -/
abbrev qIn0 := fullShare.left.left
abbrev qIn1 := fullShare.left.right
abbrev qR := fullShare.right.left
abbrev qL := fullShare.right.right

/-- Device `c`'s last eight rows of `x`, at the share the copy to the right reads them at; -/
def lastPts (c : Dev nD) : sProp 𝕄 :=
  (lastRows : Memref sig .tc .hbm S8x1024 .f32).view.loc (c : Thread nD τ) ↦[(lastRows : Memref sig .tc .hbm S8x1024 .f32).view.set]{qR} X m c
/-- its first eight, at the share of the copy to the left. -/
def firstPts (c : Dev nD) : sProp 𝕄 :=
  (firstRows : Memref sig .tc .hbm S8x1024 .f32).view.loc (c : Thread nD τ) ↦[(firstRows : Memref sig .tc .hbm S8x1024 .f32).view.set]{qL} X m c

omit [FloatOps F] in
instance landLPts_storable (c : Dev nD) (f) : BI.Storable (upEmb : UEmb _ 𝕄) (landLPts (F := F) c f) := by unfold landLPts; infer_instance
omit [FloatOps F] in
instance landRPts_storable (c : Dev nD) (f) : BI.Storable (upEmb : UEmb _ 𝕄) (landRPts (F := F) c f) := by unfold landRPts; infer_instance
omit [FloatOps F] in
instance lastPts_storable (c : Dev nD) : BI.Storable (upEmb : UEmb _ 𝕄) (lastPts (F := F) m c) := by unfold lastPts; infer_instance
omit [FloatOps F] in
instance firstPts_storable (c : Dev nD) : BI.Storable (upEmb : UEmb _ 𝕄) (firstPts (F := F) m c) := by unfold firstPts; infer_instance

/-- The right neighbour's unit on `c`'s barrier: its first landing place, where `c`'s copy to the right goes; -/
def barPayR (c : Dev nD) : sProp 𝕄 := iprop((∃ f, landLPts (nxt c) f) ∗ reached ER (recvLCell (nxt c)) 0)
/-- the left neighbour's: its second landing place, where `c`'s copy to the left goes. -/
def barPayL (c : Dev nD) : sProp 𝕄 := iprop((∃ f, landRPts (prv c) f) ∗ reached ER (recvRCell (prv c)) 0)

abbrev IsBar (g : GSem nD τ sig) : Prop := g.1.2 = .tc ∧ g.2 = .reg barS
abbrev IsXfer (g : GSem nD τ sig) : Prop :=
  g.1.2 = .tc ∧ (g.2 = .dma sendR ∨ g.2 = .dma sendL ∨ g.2 = .dma recvL ∨ g.2 = .dma recvR)

/-- One round. A barrier cell has two duties of one unit each, `true` paid by the right neighbour and `false` by the left;
    a send or receive cell has the one duty `false`, of the credit of eight rows. -/
def ringRd : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d :=
    if g.2 = .reg barS then (if d then barPayR g.1.1 else barPayL g.1.1)
    else if g.2 = .dma recvL then landLPts g.1.1 (halo m g.1.1)
    else if g.2 = .dma recvR then landRPts g.1.1 (halo m g.1.1)
    else if g.2 = .dma sendR then lastPts m g.1.1
    else if g.2 = .dma sendL then firstPts m g.1.1
    else iprop(emp)
  amount_pos g _ _ _ := by
    by_cases h : g.2 = .reg barS
    · rw [if_pos h]; exact Nat.one_pos
    · rw [if_neg h]; exact N_pos

instance ringRd_payload_storable (g : GSem nD τ sig) (r : ℕ) (d : Bool) :
    BI.Storable (upEmb : UEmb _ 𝕄) ((ringRd (F := F) m).payload g r d) := by
  show BI.Storable upEmb (if g.2 = .reg barS then (if d then barPayR g.1.1 else barPayL g.1.1)
    else if g.2 = .dma recvL then landLPts g.1.1 (halo m g.1.1) else if g.2 = .dma recvR then landRPts g.1.1 (halo m g.1.1)
    else if g.2 = .dma sendR then lastPts m g.1.1 else if g.2 = .dma sendL then firstPts m g.1.1 else iprop(emp))
  unfold barPayR barPayL
  (repeat' split) <;> infer_instance

/-! ## The schedule's tables -/

section Tables
variable (c : Dev nD)

theorem dma_ne_bar (q : DmaSem sig) : (SemLoc.dma q : SemLoc sig) ≠ .reg barS := fun h => by cases h
theorem recvR_ne_recvL : (SemLoc.dma recvR : SemLoc sig) ≠ .dma recvL := by decide
theorem sendR_ne_recvL : (SemLoc.dma sendR : SemLoc sig) ≠ .dma recvL := by decide
theorem sendR_ne_recvR : (SemLoc.dma sendR : SemLoc sig) ≠ .dma recvR := by decide
theorem sendL_ne_recvL : (SemLoc.dma sendL : SemLoc sig) ≠ .dma recvL := by decide
theorem sendL_ne_recvR : (SemLoc.dma sendL : SemLoc sig) ≠ .dma recvR := by decide
theorem sendL_ne_sendR : (SemLoc.dma sendL : SemLoc sig) ≠ .dma sendR := by decide
theorem not_bar_dma (q : DmaSem sig) : ¬ IsBar ((c : Thread nD τ), .dma q) := fun h => dma_ne_bar q h.2

omit [FloatOps F] in
theorem duties_bar : (ringRd (F := F) m).duties (barCell c) 0 = Finset.univ := by dsimp only [ringRd]; exact if_pos ⟨rfl, rfl, rfl⟩
omit [FloatOps F] in
theorem duties_sendR : (ringRd (F := F) m).duties (sendRCell c) 0 = {false} := by
  dsimp only [ringRd]; rw [if_neg (fun h => not_bar_dma c _ h.2)]; exact if_pos ⟨rfl, rfl, .inl rfl⟩
omit [FloatOps F] in
theorem duties_sendL : (ringRd (F := F) m).duties (sendLCell c) 0 = {false} := by
  dsimp only [ringRd]; rw [if_neg (fun h => not_bar_dma c _ h.2)]; exact if_pos ⟨rfl, rfl, .inr (.inl rfl)⟩
omit [FloatOps F] in
theorem duties_recvL : (ringRd (F := F) m).duties (recvLCell c) 0 = {false} := by
  dsimp only [ringRd]; rw [if_neg (fun h => not_bar_dma c _ h.2)]; exact if_pos ⟨rfl, rfl, .inr (.inr (.inl rfl))⟩
omit [FloatOps F] in
theorem duties_recvR : (ringRd (F := F) m).duties (recvRCell c) 0 = {false} := by
  dsimp only [ringRd]; rw [if_neg (fun h => not_bar_dma c _ h.2)]; exact if_pos ⟨rfl, rfl, .inr (.inr (.inr rfl))⟩
omit [FloatOps F] in
theorem duties_later (g : GSem nD τ sig) : ∀ r, 1 ≤ r → (ringRd (F := F) m).duties g r = ∅ :=
  fun r hr => by dsimp only [ringRd]; rw [if_neg fun h => by omega, if_neg fun h => by omega]

omit [FloatOps F] in
theorem amount_bar (d : Bool) : (ringRd (F := F) m).amount (barCell c) 0 d = 1 := by dsimp only [ringRd]; exact if_pos rfl
omit [FloatOps F] in
theorem amount_dma (q : DmaSem sig) (d : Bool) : (ringRd (F := F) m).amount ((c : Thread nD τ), .dma q) 0 d = N := by
  dsimp only [ringRd]; exact if_neg (dma_ne_bar q)

omit [FloatOps F] in
theorem expect_bar : (ringRd (F := F) m).expect (barCell c) 0 = 2 := by
  unfold Schedule.expect Schedule.amountOf
  rw [duties_bar, Finset.sum_congr rfl fun d _ => amount_bar m c d, Finset.sum_const, Finset.card_univ, Fintype.card_bool, smul_eq_mul]
omit [FloatOps F] in
/-- A round of the one duty `false` expects the credit of eight rows. -/
theorem expect_dma (q : DmaSem sig) (h : (ringRd (F := F) m).duties ((c : Thread nD τ), .dma q) 0 = {false}) :
    (ringRd (F := F) m).expect ((c : Thread nD τ), .dma q) 0 = N := by
  unfold Schedule.expect Schedule.amountOf; rw [h, Finset.sum_singleton, amount_dma]

omit [FloatOps F] in
theorem payload_bar_true : (ringRd (F := F) m).payload (barCell c) 0 true = barPayR c := by dsimp only [ringRd]; rw [if_pos rfl, if_pos rfl]
omit [FloatOps F] in
theorem payload_bar_false : (ringRd (F := F) m).payload (barCell c) 0 false = barPayL c := by
  dsimp only [ringRd]; rw [if_pos rfl]; exact if_neg Bool.false_ne_true
omit [FloatOps F] in
theorem payload_recvL (d : Bool) : (ringRd (F := F) m).payload (recvLCell c) 0 d = landLPts c (halo m c) := by
  dsimp only [ringRd]; rw [if_neg (dma_ne_bar _), if_pos rfl]
omit [FloatOps F] in
theorem payload_recvR (d : Bool) : (ringRd (F := F) m).payload (recvRCell c) 0 d = landRPts c (halo m c) := by
  dsimp only [ringRd]; rw [if_neg (dma_ne_bar _), if_neg recvR_ne_recvL, if_pos rfl]
omit [FloatOps F] in
theorem payload_sendR (d : Bool) : (ringRd (F := F) m).payload (sendRCell c) 0 d = lastPts m c := by
  dsimp only [ringRd]; rw [if_neg (dma_ne_bar _), if_neg sendR_ne_recvL, if_neg sendR_ne_recvR, if_pos rfl]
omit [FloatOps F] in
theorem payload_sendL (d : Bool) : (ringRd (F := F) m).payload (sendLCell c) 0 d = firstPts m c := by
  dsimp only [ringRd]; rw [if_neg (dma_ne_bar _), if_neg sendL_ne_recvL, if_neg sendL_ne_recvR, if_neg sendL_ne_sendR, if_pos rfl]

omit [FloatOps F] in
/-- A whole barrier round hands over both neighbours' landing places. -/
theorem rest_bar : bigSep ((ringRd (F := F) m).duties (barCell c) 0 \ ∅) (fun d => (ringRd (F := F) m).payload (barCell c) 0 d)
    = iprop(barPayL c ∗ barPayR c) := by
  rw [Finset.sdiff_empty, duties_bar, bigSep_univ_eq_bigSepL [false, true] (by decide) (by decide), bigSepL_cons_cons, bigSepL_singleton,
    payload_bar_false, payload_bar_true]
  rfl
omit [FloatOps F] in
theorem rest_sendR : bigSep ((ringRd (F := F) m).duties (sendRCell c) 0 \ ∅) (fun d => (ringRd (F := F) m).payload (sendRCell c) 0 d) = lastPts m c := by
  rw [Finset.sdiff_empty, duties_sendR, bigSep_singleton, payload_sendR]
omit [FloatOps F] in
theorem rest_sendL : bigSep ((ringRd (F := F) m).duties (sendLCell c) 0 \ ∅) (fun d => (ringRd (F := F) m).payload (sendLCell c) 0 d) = firstPts m c := by
  rw [Finset.sdiff_empty, duties_sendL, bigSep_singleton, payload_sendL]
omit [FloatOps F] in
theorem rest_recvL : bigSep ((ringRd (F := F) m).duties (recvLCell c) 0 \ ∅) (fun d => (ringRd (F := F) m).payload (recvLCell c) 0 d) = landLPts c (halo m c) := by
  rw [Finset.sdiff_empty, duties_recvL, bigSep_singleton, payload_recvL]
omit [FloatOps F] in
theorem rest_recvR : bigSep ((ringRd (F := F) m).duties (recvRCell c) 0 \ ∅) (fun d => (ringRd (F := F) m).payload (recvRCell c) 0 d) = landRPts c (halo m c) := by
  rw [Finset.sdiff_empty, duties_recvR, bigSep_singleton, payload_recvR]

end Tables

/-! ## What each device owes at launch, and the levels of the cells -/

/-- The credits of the two copies, owed to the neighbours' receive cells; the copy to the right pays the last summand first. -/
def Ocopy (c : Dev nD) : CellTallies nD τ sig Unit := tallyAt (recvRCell (prv c)) () N + tallyAt (recvLCell (nxt c)) () N
/-- After the first signal: the right neighbour's barrier unit too. -/
def Osig (c : Dev nD) : CellTallies nD τ sig Unit := Ocopy c + tallyAt (barCell (nxt c)) () 1
/-- At launch: both barrier units and both copies. -/
def O₀ (c : Dev nD) : CellTallies nD τ sig Unit := Osig c + tallyAt (barCell (prv c)) () 1

def L (g : GSem nD τ sig) : Finset Unit := if g.1.2 = .tc then {()} else ∅
/-- A barrier cell is at level 1, a receive cell at 2, every other cell at 0. -/
def lv (g : GSem nD τ sig) (_ : Unit) : ℕ :=
  if g.2 = .reg barS then 1 else if g.2 = .dma recvL then 2 else if g.2 = .dma recvR then 2 else 0

theorem L_of_ne (g : GSem nD τ sig) (h : g.1.2 ≠ .tc) : L g = ∅ := if_neg h
theorem L_tc (c : Dev nD) (sm : SemLoc sig) : L ((c : Thread nD τ), sm) = {()} := if_pos rfl

theorem Ocopy_pos {c : Dev nD} {g : GSem nD τ sig} {u : Unit} (h : 0 < Ocopy c g u) : g = recvRCell (prv c) ∨ g = recvLCell (nxt c) := by
  unfold Ocopy at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- At its barrier wait a device owes the two copies only: receive cells, above its barrier cell. -/
theorem mayWait_bar (c : Dev nD) : (levAts L lv : sProp 𝕄) ⊢ MayWait (c : Thread nD τ) (.reg barS) () (Ocopy c) :=
  MayOwe.of_cut (L := L) (lev := lv) 1 (fun p hp => by rw [Finset.mem_singleton.mp hp, L_tc]; exact Finset.mem_singleton_self _)
    (fun g u hg => by rcases Ocopy_pos hg with rfl | rfl <;> exact Finset.mem_singleton_self _)
    (fun p hp => by rw [Finset.mem_singleton.mp hp]; dsimp only [lv]; rw [if_pos rfl])
    (fun g u hg => by
      rcases Ocopy_pos hg with rfl | rfl
      · dsimp only [lv]; rw [if_neg (dma_ne_bar _), if_neg recvR_ne_recvL, if_pos rfl]; decide
      · dsimp only [lv]; rw [if_neg (dma_ne_bar _), if_pos rfl]; decide)

end Cert.Stencil

end
-- ==== Proof.Reads.lean ====
/-
Reading a stack of row blocks one element at a time.

The kernel keeps rows in buffers of shape (slots, rows, lanes). A copy reads or fills a run of rows `o, …, o + n - 1` of
one slot `s`, seen as an (rows, lanes) matrix. Here: what such a copy reads at row `j`; what an element of the buffer
holds after such a copy has filled its run; and a load or a store of a run of rows, here and in a plain matrix.
-/
module

public import Idealize.ShloMosaic.Lib.Pipeline.Value
public import Idealize.ShloMosaic.Lib.WritesUnit
public import Idealize.ShloMosaic.Lib.ValueIdx

@[expose] public section

noncomputable section

namespace Cert.Stencil

open Idealize.ShloMosaic Idealize.ShloMosaic.ValueIdx

variable {sig : RefSig} {κ : Kind} {sp : Space} {e : EltTy} {Val : EltTy → Type} {A B C n : ℕ}

/-- The row-major position of `(r, l)` in an `n × C` matrix is that of `(0, r, l)` in a `1 × n × C` array. -/
theorem reshape_row (h : (⟨2, ![n, C]⟩ : Shape).numel = (⟨3, ![1, n, C]⟩ : Shape).numel) (j : (⟨2, ![n, C]⟩ : Shape).Idx) :
    Shape.reshapeEquiv h j = (ix3 (n0 := 1) (n1 := n) (n2 := C) 0 (j 0) (j 1)) :=
  Shape.reshapeEquiv_eq_of_rowMajor h (by
    rw [Shape.rowMajor_val_two, Shape.rowMajor_val_three]
    show ((0 : ℕ) * n + (j 0).val) * C + (j 1).val = (j 0).val * C + (j 1).val
    rw [Nat.zero_mul, Nat.zero_add])

/-- A one-slot block cast to a matrix, at `(r, l)`, is the block at `(0, r, l)`; -/
theorem cast_drop {α : Type} (x : (⟨3, ![1, n, C]⟩ : Shape).Idx → α) (h : (⟨3, ![1, n, C]⟩ : Shape).ShapeCasts ⟨2, ![n, C]⟩)
    (j : (⟨2, ![n, C]⟩ : Shape).Idx) : shapeCast ⟨2, ![n, C]⟩ x h j = x (ix3 (n0 := 1) (n1 := n) (n2 := C) 0 (j 0) (j 1)) :=
  shapeCast_apply x h j _ (by
    rw [Shape.rowMajor_val_two, Shape.rowMajor_val_three]
    show ((0 : ℕ) * n + (j 0).val) * C + (j 1).val = (j 0).val * C + (j 1).val
    rw [Nat.zero_mul, Nat.zero_add])

/-- a matrix cast to a one-slot block, at `(s, r, l)`, is the matrix at `(r, l)`. -/
theorem cast_add {α : Type} (x : (⟨2, ![n, C]⟩ : Shape).Idx → α) (h : (⟨2, ![n, C]⟩ : Shape).ShapeCasts ⟨3, ![1, n, C]⟩)
    (j : (⟨3, ![1, n, C]⟩ : Shape).Idx) : shapeCast ⟨3, ![1, n, C]⟩ x h j = x (ix2 (n0 := n) (n1 := C) (j 1) (j 2)) :=
  shapeCast_apply x h j _ (by
    rw [Shape.rowMajor_val_two, Shape.rowMajor_val_three]
    have h0 : (j 0).val = 0 := by have h : (j 0).val < 1 := (j 0).isLt; omega
    rw [h0]
    show (j 1).val * C + (j 2).val = ((0 : ℕ) * n + (j 1).val) * C + (j 2).val
    rw [Nat.zero_mul, Nat.zero_add])

section Slot
variable (M : Memref sig κ sp (⟨3, ![A, B, C]⟩ : Shape) e) (s o : ℕ)
  (inb : ∀ a : Fin 3, (![s, o, 0] : Fin 3 → ℕ) a + (![1, n, C] : Fin 3 → ℕ) a ≤ (![A, B, C] : Fin 3 → ℕ) a)

/-- Element `(0, r, l)` of the run sits at slot `s`, row `o + r`, lane `l`. -/
theorem run_emb (j : (⟨2, ![n, C]⟩ : Shape).Idx) (y : (⟨3, ![A, B, C]⟩ : Shape).Idx)
    (h0 : (y 0).val = s) (h1 : (y 1).val = o + (j 0).val) (h2 : (y 2).val = (j 1).val) :
    (Rect.unit (s := (⟨3, ![A, B, C]⟩ : Shape)) ![s, o, 0] ![1, n, C] inb).emb (ix3 (n0 := 1) (n1 := n) (n2 := C) 0 (j 0) (j 1)) = y := by
  funext a
  apply Fin.ext
  fin_cases a
  · show s + 1 * 0 = (y 0).val; omega
  · show o + 1 * (j 0).val = (y 1).val; omega
  · show 0 + 1 * (j 1).val = (y 2).val; omega

/-- A copy out of the run reads, at row `r`, the buffer at slot `s`, row `o + r`. -/
theorem read_run (hst) (hq : (⟨3, ![1, n, C]⟩ : Shape).Squeezes ⟨2, ![n, C]⟩) (f : M.view.ty.Contents Val) (j : (⟨2, ![n, C]⟩ : Shape).Idx)
    (y : (⟨3, ![A, B, C]⟩ : Shape).Idx) (h0 : (y 0).val = s) (h1 : (y 1).val = o + (j 0).val) (h2 : (y 2).val = (j 1).val) :
    ((M.slice (Rect.unit (s := (⟨3, ![A, B, C]⟩ : Shape)) ![s, o, 0] ![1, n, C] inb) hst).squeeze ⟨2, ![n, C]⟩ hq).view.read Val f j
      = M.view.read Val f y := by
  rw [Memref.read_squeeze_slice M _ hst hq hq.numel_eq f, cast_drop]
  exact congrArg (M.view.read Val f) (run_emb s o inb j y h0 h1 h2)

/-- A copy into the run leaves, at slot `s`, row `o + r`, what it copied at row `r`; -/
theorem read_fill (hst) (hq : (⟨3, ![1, n, C]⟩ : Shape).Squeezes ⟨2, ![n, C]⟩) (f : M.view.ty.Contents Val)
    (w : (⟨2, ![n, C]⟩ : Shape).Idx → Val e) (j : (⟨2, ![n, C]⟩ : Shape).Idx)
    (y : (⟨3, ![A, B, C]⟩ : Shape).Idx) (h0 : (y 0).val = s) (h1 : (y 1).val = o + (j 0).val) (h2 : (y 2).val = (j 1).val) :
    M.view.read Val (((M.slice (Rect.unit (s := (⟨3, ![A, B, C]⟩ : Shape)) ![s, o, 0] ![1, n, C] inb) hst).squeeze ⟨2, ![n, C]⟩ hq).view.write
      Val f w Finset.univ) y = w j := by
  rw [← read_run M s o inb hst hq _ j y h0 h1 h2, View.read_write_univ]

/-- and every other slot as it was. -/
theorem read_fill_other (hst) (hq : (⟨3, ![1, n, C]⟩ : Shape).Squeezes ⟨2, ![n, C]⟩) (f : M.view.ty.Contents Val)
    (w : (⟨2, ![n, C]⟩ : Shape).Idx → Val e) (y : (⟨3, ![A, B, C]⟩ : Shape).Idx) (h0 : (y 0).val ≠ s) :
    M.view.read Val (((M.slice (Rect.unit (s := (⟨3, ![A, B, C]⟩ : Shape)) ![s, o, 0] ![1, n, C] inb) hst).squeeze ⟨2, ![n, C]⟩ hq).view.write
      Val f w Finset.univ) y = M.view.read Val f y := by
  rw [View.read_apply, View.read_apply, View.write_of_not_mem]
  intro hm
  obtain ⟨j, -, hj⟩ := Finset.mem_map.mp hm
  have hy : (Rect.unit (s := (⟨3, ![A, B, C]⟩ : Shape)) ![s, o, 0] ![1, n, C] inb).emb (Shape.reshapeEquiv hq.numel_eq j) = y :=
    M.view.emb.injective hj
  rw [reshape_row hq.numel_eq j] at hy
  apply h0
  rw [← hy]
  show s + 1 * 0 = s
  omega

/-- A load of the run reads, at `(0, r, l)`, the buffer at slot `s`, row `o + r`. -/
theorem load_run (f : M.view.ty.Contents Val) (j : (⟨3, ![1, n, C]⟩ : Shape).Idx)
    (y : (⟨3, ![A, B, C]⟩ : Shape).Idx) (h0 : (y 0).val = s) (h1 : (y 1).val = o + (j 1).val) (h2 : (y 2).val = (j 2).val) :
    M.view.readAt Val (Rect.unit (s := (⟨3, ![A, B, C]⟩ : Shape)) ![s, o, 0] ![1, n, C] inb).toLoadRect f j = M.view.read Val f y := by
  have h := run_emb s o inb (ix2 (n0 := n) (n1 := C) (j 1) (j 2)) y h0 h1 h2
  have hj : j = ix3 (n0 := 1) (n1 := n) (n2 := C) 0 (j 1) (j 2) := by
    funext a
    apply Fin.ext
    fin_cases a
    · have h : (j 0).val < 1 := (j 0).isLt
      show (j 0).val = 0; omega
    · rfl
    · rfl
  rw [View.readAt_apply, hj]
  exact congrArg (M.view.read Val f) h

/-- After a store of the run, slot `s`, row `o + r` holds what was stored at `(0, r, l)`; -/
theorem read_store (f : M.view.ty.Contents Val) (w : (⟨3, ![1, n, C]⟩ : Shape).Idx → Val e) (L) (y : (⟨3, ![A, B, C]⟩ : Shape).Idx)
    (j : (⟨3, ![1, n, C]⟩ : Shape).Idx) (h0 : (y 0).val = s) (h1 : (y 1).val = o + (j 1).val) (h2 : (y 2).val = (j 2).val) :
    M.view.read Val (M.view.writes Val f (⟨Rect.unit (s := (⟨3, ![A, B, C]⟩ : Shape)) ![s, o, 0] ![1, n, C] inb, w⟩ :: L)) y = w j :=
  View.read_writes_cons_unit_of_mem M.view f inb w L y j rfl (fun a => by
    have h : (j 0).val < 1 := (j 0).isLt
    fin_cases a
    · show (y 0).val = s + (j 0).val; omega
    · exact h1
    · show (y 2).val = 0 + (j 2).val; omega)

/-- another slot, or a row outside the run, holds what the earlier stores left. -/
theorem read_store_other (f : M.view.ty.Contents Val) (w : (⟨3, ![1, n, C]⟩ : Shape).Idx → Val e) (L) (y : (⟨3, ![A, B, C]⟩ : Shape).Idx)
    (h : (y 0).val ≠ s ∨ (y 1).val < o ∨ o + n ≤ (y 1).val) :
    M.view.read Val (M.view.writes Val f (⟨Rect.unit (s := (⟨3, ![A, B, C]⟩ : Shape)) ![s, o, 0] ![1, n, C] inb, w⟩ :: L)) y
      = M.view.read Val (M.view.writes Val f L) y := by
  rcases h with h | h
  · exact View.read_writes_cons_unit_of_not_mem M.view f inb w L y rfl (0 : Fin 3)
      (show (y 0).val < s ∨ s + 1 ≤ (y 0).val by omega)
  · exact View.read_writes_cons_unit_of_not_mem M.view f inb w L y rfl (1 : Fin 3) h

end Slot

section Rows
variable (M : Memref sig κ sp (⟨2, ![A, C]⟩ : Shape) e) (p : ℕ)
  (inb : ∀ a : Fin 2, (![p, 0] : Fin 2 → ℕ) a + (![n, C] : Fin 2 → ℕ) a ≤ (![A, C] : Fin 2 → ℕ) a)

/-- After a store of rows `p, …, p + n - 1` of a matrix, row `p + r` holds what was stored at row `r`; -/
theorem read_rows (f : M.view.ty.Contents Val) (w : (⟨2, ![n, C]⟩ : Shape).Idx → Val e) (L) (y : (⟨2, ![A, C]⟩ : Shape).Idx)
    (j : (⟨2, ![n, C]⟩ : Shape).Idx) (h0 : (y 0).val = p + (j 0).val) (h1 : (y 1).val = (j 1).val) :
    M.view.read Val (M.view.writes Val f (⟨Rect.unit (s := (⟨2, ![A, C]⟩ : Shape)) ![p, 0] ![n, C] inb, w⟩ :: L)) y = w j :=
  View.read_writes_cons_rows_of_mem M.view f inb w L y j rfl h0 h1

/-- another row holds what the earlier stores left. -/
theorem read_rows_other (f : M.view.ty.Contents Val) (w : (⟨2, ![n, C]⟩ : Shape).Idx → Val e) (L) (y : (⟨2, ![A, C]⟩ : Shape).Idx)
    (h : (y 0).val < p ∨ p + n ≤ (y 0).val) :
    M.view.read Val (M.view.writes Val f (⟨Rect.unit (s := (⟨2, ![A, C]⟩ : Shape)) ![p, 0] ![n, C] inb, w⟩ :: L)) y
      = M.view.read Val (M.view.writes Val f L) y :=
  View.read_writes_cons_rows_of_not_mem M.view f inb w L y rfl rfl h

end Rows

end Cert.Stencil

end
-- ==== Proof.Block.lean ====
/-
What one block computes, and what a device's result array is to hold.

A block is one slot of the input buffer read three times, one row apart; the body multiplies the three readings by 1/4, 1/2
and 1/4 and adds them from left to right. The same three products, on a single row, make the device's first and last rows
out of a neighbour's row. All of it holds for any float operations: no law of arithmetic is used.
-/
module

public import proofs.«01_k».proof.Proof.Protocol
public import proofs.«01_k».proof.Proof.Reads

@[expose] public section

noncomputable section

namespace Cert.Stencil

open Cert.KernelIdeal Cert.KernelIdeal.Gen

open Idealize.ShloMosaic Idealize.ShloMosaic.TcCoe Idealize.ShloMosaic.ValueIdx

variable {F : FTy → Type} [FloatOps F]

/-- The two weights, 1/4 and 1/2. -/
abbrev quarter : F .f32 := Scalar.ofBits .f32 0x3E800000#32
abbrev half : F .f32 := Scalar.ofBits .f32 0x3F000000#32

/-- The stencil on three neighbouring elements: `1/4 a + 1/2 b + 1/4 d`, added from left to right. -/
def st (a b d : F .f32) : F .f32 :=
  FloatOps.addf (FloatOps.addf (FloatOps.mulf quarter a) (FloatOps.mulf half b)) (FloatOps.mulf quarter d)

/-! ## The stored values, one element at a time -/

section Pay
variable {n C : ℕ}

omit [FloatOps F] in
theorem idx_one (j : (⟨3, ![1, n, C]⟩ : Shape).Idx) : ix3 (n0 := 1) (n1 := n) (n2 := C) 0 (j 1) (j 2) = j := by
  funext a
  apply Fin.ext
  fin_cases a
  · have h : (j 0).val < 1 := (j 0).isLt
    show 0 = (j 0).val; omega
  · rfl
  · rfl

/-- Three blocks weighted and added as matrices, cast back to a block: the stencil at every element. -/
theorem weighted (a b d : FVec F (⟨3, ![1, n, C]⟩ : Shape) .f32) (h : (⟨3, ![1, n, C]⟩ : Shape).ShapeCasts ⟨2, ![n, C]⟩)
    (h' : (⟨2, ![n, C]⟩ : Shape).ShapeCasts ⟨3, ![1, n, C]⟩) (j : (⟨3, ![1, n, C]⟩ : Shape).Idx) :
    shapeCast ⟨3, ![1, n, C]⟩ (addf (addf (mulf (broadcast ⟨2, ![n, C]⟩ quarter) (shapeCast ⟨2, ![n, C]⟩ a h))
        (mulf (broadcast ⟨2, ![n, C]⟩ half) (shapeCast ⟨2, ![n, C]⟩ b h))) (mulf (broadcast ⟨2, ![n, C]⟩ quarter) (shapeCast ⟨2, ![n, C]⟩ d h))) h' j
      = st (a j) (b j) (d j) := by
  rw [cast_add]
  show st (shapeCast ⟨2, ![n, C]⟩ a h _) (shapeCast ⟨2, ![n, C]⟩ b h _) (shapeCast ⟨2, ![n, C]⟩ d h _) = _
  rw [cast_drop, cast_drop, cast_drop]
  show st (a (ix3 0 (j 1) (j 2))) (b (ix3 0 (j 1) (j 2))) (d (ix3 0 (j 1) (j 2))) = _
  rw [idx_one]

omit [FloatOps F] in
/-- A block cast to a matrix and back is itself. -/
theorem recast (a : FVec F (⟨3, ![1, n, C]⟩ : Shape) .f32) (h : (⟨3, ![1, n, C]⟩ : Shape).ShapeCasts ⟨2, ![n, C]⟩)
    (h' : (⟨2, ![n, C]⟩ : Shape).ShapeCasts ⟨3, ![1, n, C]⟩) (j : (⟨3, ![1, n, C]⟩ : Shape).Idx) :
    shapeCast ⟨3, ![1, n, C]⟩ (shapeCast ⟨2, ![n, C]⟩ a h) h' j = a j := by
  rw [cast_add, cast_drop]
  show a (ix3 0 (j 1) (j 2)) = _
  rw [idx_one]

end Pay

/-- The four blocks' stores, in program order (blocks 1, 0, 2, 3). -/
theorem pay_block1 (a b d : Vec F S1x1024x1024 .f32) (j : S1x1024x1024.Idx) : k0_pay3 (k0_pay1 a) (k0_pay2 b) d j = st (a j) (b j) (d j) :=
  weighted a b d _ _ j
theorem pay_block0 (a b d : Vec F S1x1024x1024 .f32) (j : S1x1024x1024.Idx) : k0_pay6 (k0_pay4 a) k0_pay5 b d j = st (a j) (b j) (d j) :=
  weighted a b d _ _ j
theorem pay_block2 (a b d : Vec F S1x1024x1024 .f32) (j : S1x1024x1024.Idx) : k0_pay11 (k0_pay9 a b) (k0_pay10 d) j = st (a j) (b j) (d j) :=
  weighted a b d _ _ j
theorem pay_block3 (a b d : Vec F S1x1024x1024 .f32) (j : S1x1024x1024.Idx) : k0_pay14 (k0_pay12 a) (k0_pay13 b) d j = st (a j) (b j) (d j) :=
  weighted a b d _ _ j
/-- The first and the last row made with a neighbour's row. -/
theorem pay_first (a b d : Vec F S1x1x1024 .f32) (j : S1x1x1024.Idx) : k0_pay18 a b d j = st (a j) (b j) (d j) := weighted a b d _ _ j
theorem pay_last (a b d : Vec F S1x1x1024 .f32) (j : S1x1x1024.Idx) : k0_pay20 a b d j = st (a j) (b j) (d j) := weighted a b d _ _ j
omit [FloatOps F] in
/-- The rows copied into the edge buffer. -/
theorem pay_copy8 (a : Vec F S1x8x1024 .f32) (j : S1x8x1024.Idx) : k0_pay7 a j = a j := recast a _ _ j
omit [FloatOps F] in
theorem pay_copy8' (a : Vec F S1x8x1024 .f32) (j : S1x8x1024.Idx) : k0_pay15 a j = a j := recast a _ _ j
omit [FloatOps F] in
theorem pay_copy2 (a : Vec F S1x2x1024 .f32) (j : S1x2x1024.Idx) : k0_pay8 a j = a j := recast a _ _ j
omit [FloatOps F] in
theorem pay_copy2' (a : Vec F S1x2x1024 .f32) (j : S1x2x1024.Idx) : k0_pay16 a j = a j := recast a _ _ j
omit [FloatOps F] in
theorem pay_copy1 (a : Vec F S1x1x1024 .f32) (j : S1x1x1024.Idx) : k0_pay17 a j = a j := recast a _ _ j
omit [FloatOps F] in
theorem pay_copy1' (a : Vec F S1x1x1024 .f32) (j : S1x1x1024.Idx) : k0_pay19 a j = a j := recast a _ _ j

/-! ## A device's block of `x` and its result, by row and lane -/

variable (m : (ℓ : Loc nD τ sig) → Buf (Elt F) ℓ)

set_option backward.proofsInPublic true in
/-- Row `r`, lane `l` of device `c`'s block of `x`. -/
def xAt (c : Dev nD) (r l : ℕ) : F .f32 :=
  X m c (ix2 (n0 := 4096) (n1 := 1024) ⟨r % 4096, Nat.mod_lt _ (by decide)⟩ ⟨l % 1024, Nat.mod_lt _ (by decide)⟩)

omit [FloatOps F] in
theorem X_eq (c : Dev nD) (x : S4096x1024.Idx) : X m c x = xAt m c (x 0).val (x 1).val := by
  unfold xAt
  refine congrArg (X m c) (funext fun a => Fin.ext ?_)
  have h0 : (x 0).val < 4096 := (x 0).isLt
  have h1 : (x 1).val < 1024 := (x 1).isLt
  fin_cases a
  · exact (Nat.mod_eq_of_lt h0).symm
  · exact (Nat.mod_eq_of_lt h1).symm

/-- Row `r`, lane `l` of device `c`'s result: the stencil over the whole array's rows, the array's first row (on device 0)
    and last row (on device 7) copied. -/
def outAt (c : Dev nD) (r l : ℕ) : F .f32 :=
  if r = 0 then (if c.val = 0 then xAt m c 0 l else st (xAt m (prv c) 4095 l) (xAt m c 0 l) (xAt m c 1 l))
  else if r = 4095 then (if c.val = 7 then xAt m c 4095 l else st (xAt m c 4094 l) (xAt m c 4095 l) (xAt m (nxt c) 0 l))
  else st (xAt m c (r - 1) l) (xAt m c r l) (xAt m c (r + 1) l)

/-- Device `c`'s whole result array. -/
def outVal (c : Dev nD) : (main_v1 : Ref sig .tc).ty.Contents (Elt F) := fun i => outAt m c (i 0).val (i 1).val

theorem outAt_mid (c : Dev nD) {r : ℕ} (l : ℕ) (h0 : r ≠ 0) (h1 : r ≠ 4095) :
    outAt m c r l = st (xAt m c (r - 1) l) (xAt m c r l) (xAt m c (r + 1) l) := by unfold outAt; rw [if_neg h0, if_neg h1]

omit [FloatOps F] in
/-- The landing places hold the neighbours' rows. -/
theorem halo_first (c : Dev nD) (y : S2x8x1024.Idx) (h : (y 0).val = 0) : halo m c y = xAt m (prv c) (4088 + (y 1).val) (y 2).val := by
  unfold halo
  rw [if_pos h, X_eq]
omit [FloatOps F] in
theorem halo_second (c : Dev nD) (y : S2x8x1024.Idx) (h : (y 0).val = 1) : halo m c y = xAt m (nxt c) (y 1).val (y 2).val := by
  unfold halo
  rw [if_neg (by omega), X_eq]

end Cert.Stencil

end
-- ==== Proof.Buffers.lean ====
/-
What the kernel's buffers hold, step by step, for any contents the buffers started with.

  * `Loaded f s b`: slot `s` of the input buffer holds block `b` of `x` with the eight rows above and below it (as far as
    the device has them). A copy in makes it so (`loaded_fill`), a copy into the other slot keeps it (`loaded_other`).
  * `RowsAt w c b`: the block `w` holds rows `1024 b, 1024 b + 1, …` of the result, except possibly the device's first and
    last row, which no reading of a single device's rows can give.
  * `out_block`: what a copy out of an output slot reads is the block last stored there.
  * `result_pieces`: six runs of rows, each holding the result's rows, make up the result array.
-/
module

public import proofs.«01_k».proof.Proof.Block

@[expose] public section

noncomputable section

namespace Cert.Stencil

open Cert.KernelIdeal Cert.KernelIdeal.Gen

open Idealize.ShloMosaic Idealize.ShloMosaic.TcCoe Idealize.ShloMosaic.ValueIdx

variable {F : FTy → Type} [FloatOps F]

variable (m : (ℓ : Loc nD τ sig) → Buf (Elt F) ℓ)

/-! ## The input buffer -/

/-- Slot `s` of the input buffer holds block `b`: its row `r` is row `1024 b + r - 8` of the device's `x`. -/
def Loaded (c : Dev nD) (f : (cc0_scratch0 : Ref sig .tc).ty.Contents (Elt F)) (s b : ℕ) : Prop :=
  ∀ y : S2x1040x1024.Idx, (y 0).val = s → 8 ≤ 1024 * b + (y 1).val → 1024 * b + (y 1).val < 4104 →
    (inM : Memref sig .tc .vmem S2x1040x1024 .f32).view.read (Elt F) f y = xAt m c (1024 * b + (y 1).val - 8) (y 2).val

section Fill
variable {n : ℕ} (c : Dev nD) (s o : ℕ)
  (inb : ∀ a : Fin 3, (![s, o, 0] : Fin 3 → ℕ) a + (![1, n, 1024] : Fin 3 → ℕ) a ≤ (![2, 1040, 1024] : Fin 3 → ℕ) a)
  (hst) (hq : (⟨3, ![1, n, 1024]⟩ : Shape).Squeezes ⟨2, ![n, 1024]⟩)
  (f : (cc0_scratch0 : Ref sig .tc).ty.Contents (Elt F)) (w : (⟨2, ![n, 1024]⟩ : Shape).Idx → Elt F .f32)

/-- The copy of rows `p, p + 1, …` of `x` into slot `s` from its row `o` on makes the slot hold block `b`, when the copy
    reaches every row of the slot the block has. -/
theorem loaded_fill (b p : ℕ) (hw : ∀ j, w j = xAt m c (p + (j 0).val) (j 1).val) (hp : p + 8 = 1024 * b + o)
    (hr : ∀ r, r < 1040 → 8 ≤ 1024 * b + r → 1024 * b + r < 4104 → o ≤ r ∧ r < o + n) :
    Loaded m c ((((inM : Memref sig .tc .vmem S2x1040x1024 .f32).slice (Rect.unit (s := (⟨3, ![2, 1040, 1024]⟩ : Shape)) ![s, o, 0] ![1, n, 1024] inb) hst).squeeze
      ⟨2, ![n, 1024]⟩ hq).view.write (Elt F) f w Finset.univ) s b := by
  intro y h0 h1 h2
  have hy : (y 1).val < 1040 := (y 1).isLt
  have hl : (y 2).val < 1024 := (y 2).isLt
  obtain ⟨h3, h4⟩ := hr _ hy h1 h2
  rw [read_fill (A := 2) (B := 1040) (C := 1024) inM s o inb hst hq f w (ix2 (n0 := n) (n1 := 1024) ⟨(y 1).val - o, by omega⟩ ⟨(y 2).val, hl⟩) y h0
    (show (y 1).val = o + ((y 1).val - o) by omega) rfl, hw]
  show xAt m c (p + ((y 1).val - o)) (y 2).val = _
  congr 1
  omega

/-- A copy into slot `s` keeps what the other slot holds. -/
theorem loaded_other {s' b : ℕ} (hs : s' ≠ s) (h : Loaded m c f s' b) :
    Loaded m c ((((inM : Memref sig .tc .vmem S2x1040x1024 .f32).slice (Rect.unit (s := (⟨3, ![2, 1040, 1024]⟩ : Shape)) ![s, o, 0] ![1, n, 1024] inb) hst).squeeze
      ⟨2, ![n, 1024]⟩ hq).view.write (Elt F) f w Finset.univ) s' b := by
  intro y h0 h1 h2
  rw [read_fill_other (A := 2) (B := 1040) (C := 1024) inM s o inb hst hq f w y (by omega)]
  exact h y h0 h1 h2

/-- A load of rows `o, o + 1, …` of a slot holding block `b`. -/
theorem loaded_load {b : ℕ} (h : Loaded m c f s b) (j : (⟨3, ![1, n, 1024]⟩ : Shape).Idx)
    (h1 : 8 ≤ 1024 * b + (o + (j 1).val)) (h2 : 1024 * b + (o + (j 1).val) < 4104) :
    (inM : Memref sig .tc .vmem S2x1040x1024 .f32).view.readAt (Elt F) (Rect.unit (s := (⟨3, ![2, 1040, 1024]⟩ : Shape)) ![s, o, 0] ![1, n, 1024] inb).toLoadRect f j
      = xAt m c (1024 * b + (o + (j 1).val) - 8) (j 2).val := by
  have hs : s < 2 := by have h : s + 1 ≤ 2 := inb 0; omega
  have ho : o + (j 1).val < 1040 := by
    have h : o + n ≤ 1040 := inb 1
    have hj : (j 1).val < n := (j 1).isLt
    omega
  have hl : (j 2).val < 1024 := (j 2).isLt
  rw [load_run (A := 2) (B := 1040) (C := 1024) inM s o inb f j (ix3 (n0 := 2) (n1 := 1040) (n2 := 1024) ⟨s, hs⟩ ⟨o + (j 1).val, ho⟩ ⟨(j 2).val, hl⟩) rfl rfl rfl]
  exact h _ rfl h1 h2

end Fill

omit [FloatOps F] in
/-- A copy of rows `p, p + 1, …` of `x`. -/
theorem rows_of_x {n p : ℕ} (c : Dev nD) (inb : ∀ a : Fin 2, (![p, 0] : Fin 2 → ℕ) a + (![n, 1024] : Fin 2 → ℕ) a ≤ (![4096, 1024] : Fin 2 → ℕ) a) (hst)
    (j : (⟨2, ![n, 1024]⟩ : Shape).Idx) :
    ((xM : Memref sig .tc .hbm S4096x1024 .f32).slice (Rect.unit (s := (⟨2, ![4096, 1024]⟩ : Shape)) ![p, 0] ![n, 1024] inb) hst).view.read (Elt F) (X m c) j
      = xAt m c (p + (j 0).val) (j 1).val := by
  show X m c ((Rect.unit (s := (⟨2, ![4096, 1024]⟩ : Shape)) ![p, 0] ![n, 1024] inb).emb j) = _
  rw [X_eq]
  show xAt m c (p + 1 * (j 0).val) (0 + 1 * (j 1).val) = _
  rw [Nat.one_mul, Nat.one_mul, Nat.zero_add]

/-! ## A block -/

/-- `w` holds the result's rows from `1024 b` on, the device's first and last row excepted. -/
def RowsAt (c : Dev nD) (w : S1x1024x1024.Idx → Elt F .f32) (b : ℕ) : Prop :=
  ∀ j : S1x1024x1024.Idx, 1024 * b + (j 1).val ≠ 0 → 1024 * b + (j 1).val ≠ 4095 → w j = outAt m c (1024 * b + (j 1).val) (j 2).val

/-- Three loads of a slot holding block `b`, a row apart, put through the stencil: the result's rows. -/
theorem rowsAt_block (c : Dev nD) (f : (cc0_scratch0 : Ref sig .tc).ty.Contents (Elt F)) (s b : ℕ) (hb : b < 4) (h : Loaded m c f s b)
    (inb7) (inb8) (inb9) (w : S1x1024x1024.Idx → Elt F .f32)
    (hw : ∀ j, w j = st
      ((inM : Memref sig .tc .vmem S2x1040x1024 .f32).view.readAt (Elt F) (Rect.unit (s := (⟨3, ![2, 1040, 1024]⟩ : Shape)) ![s, 7, 0] ![1, 1024, 1024] inb7).toLoadRect f j)
      ((inM : Memref sig .tc .vmem S2x1040x1024 .f32).view.readAt (Elt F) (Rect.unit (s := (⟨3, ![2, 1040, 1024]⟩ : Shape)) ![s, 8, 0] ![1, 1024, 1024] inb8).toLoadRect f j)
      ((inM : Memref sig .tc .vmem S2x1040x1024 .f32).view.readAt (Elt F) (Rect.unit (s := (⟨3, ![2, 1040, 1024]⟩ : Shape)) ![s, 9, 0] ![1, 1024, 1024] inb9).toLoadRect f j)) :
    RowsAt m c w b := by
  intro j h0 h1
  have hj : (j 1).val < 1024 := (j 1).isLt
  rw [hw, outAt_mid m c _ h0 h1, loaded_load m c s 7 inb7 f h j (by omega) (by omega), loaded_load m c s 8 inb8 f h j (by omega) (by omega),
    loaded_load m c s 9 inb9 f h j (by omega) (by omega)]
  congr 1
  · congr 1; omega
  · congr 1; omega
  · congr 1; omega

/-! ## The output buffer -/

/-- A copy out of slot `s` from its row `o` on, right after a store of the whole slot, reads the stored block. -/
theorem out_block {n s o : ℕ} (c : Dev nD) (b : ℕ) (w : S1x1024x1024.Idx → Elt F .f32) (h : RowsAt m c w b)
    (inbw : ∀ a : Fin 3, (![s, 0, 0] : Fin 3 → ℕ) a + (![1, 1024, 1024] : Fin 3 → ℕ) a ≤ (![2, 1024, 1024] : Fin 3 → ℕ) a)
    (inb : ∀ a : Fin 3, (![s, o, 0] : Fin 3 → ℕ) a + (![1, n, 1024] : Fin 3 → ℕ) a ≤ (![2, 1024, 1024] : Fin 3 → ℕ) a)
    (hst) (hq : (⟨3, ![1, n, 1024]⟩ : Shape).Squeezes ⟨2, ![n, 1024]⟩) (f1 : (cc0_scratch1 : Ref sig .tc).ty.Contents (Elt F)) (L)
    (j : (⟨2, ![n, 1024]⟩ : Shape).Idx) (h0 : 1024 * b + o + (j 0).val ≠ 0) (h1 : 1024 * b + o + (j 0).val ≠ 4095) :
    (((outM : Memref sig .tc .vmem S2x1024x1024 .f32).slice (Rect.unit (s := (⟨3, ![2, 1024, 1024]⟩ : Shape)) ![s, o, 0] ![1, n, 1024] inb) hst).squeeze
      ⟨2, ![n, 1024]⟩ hq).view.read (Elt F) ((outM : Memref sig .tc .vmem S2x1024x1024 .f32).view.writes (Elt F) f1
        (⟨Rect.unit (s := (⟨3, ![2, 1024, 1024]⟩ : Shape)) ![s, 0, 0] ![1, 1024, 1024] inbw, w⟩ :: L)) j
      = outAt m c (1024 * b + o + (j 0).val) (j 1).val := by
  have hs : s < 2 := by have h : s + 1 ≤ 2 := inb 0; omega
  have ho : o + (j 0).val < 1024 := by
    have h : o + n ≤ 1024 := inb 1
    have hj : (j 0).val < n := (j 0).isLt
    omega
  have hl : (j 1).val < 1024 := (j 1).isLt
  rw [read_run (A := 2) (B := 1024) (C := 1024) outM s o inb hst hq _ j
    (ix3 (n0 := 2) (n1 := 1024) (n2 := 1024) ⟨s, hs⟩ ⟨o + (j 0).val, ho⟩ ⟨(j 1).val, hl⟩) rfl rfl rfl]
  rw [read_store (A := 2) (B := 1024) (C := 1024) outM s 0 inbw f1 w L _ (ix3 (n0 := 1) (n1 := 1024) (n2 := 1024) 0 ⟨o + (j 0).val, ho⟩ ⟨(j 1).val, hl⟩)
    rfl (Nat.zero_add _).symm rfl]
  rw [h _ (show 1024 * b + (o + (j 0).val) ≠ 0 by omega) (show 1024 * b + (o + (j 0).val) ≠ 4095 by omega)]
  show outAt m c (1024 * b + (o + (j 0).val)) (j 1).val = _
  rw [Nat.add_assoc]

/-- A load of rows `o, o + 1, …` of the slot, right after a store of the whole slot. -/
theorem out_load {n s o : ℕ} (c : Dev nD) (b : ℕ) (w : S1x1024x1024.Idx → Elt F .f32) (h : RowsAt m c w b)
    (inbw : ∀ a : Fin 3, (![s, 0, 0] : Fin 3 → ℕ) a + (![1, 1024, 1024] : Fin 3 → ℕ) a ≤ (![2, 1024, 1024] : Fin 3 → ℕ) a)
    (inb : ∀ a : Fin 3, (![s, o, 0] : Fin 3 → ℕ) a + (![1, n, 1024] : Fin 3 → ℕ) a ≤ (![2, 1024, 1024] : Fin 3 → ℕ) a) (L)
    (j : (⟨3, ![1, n, 1024]⟩ : Shape).Idx) (h0 : 1024 * b + o + (j 1).val ≠ 0) (h1 : 1024 * b + o + (j 1).val ≠ 4095) :
    (outM : Memref sig .tc .vmem S2x1024x1024 .f32).view.readCov
        (⟨Rect.unit (s := (⟨3, ![2, 1024, 1024]⟩ : Shape)) ![s, 0, 0] ![1, 1024, 1024] inbw, w⟩ :: L)
        (Rect.unit (s := (⟨3, ![2, 1024, 1024]⟩ : Shape)) ![s, o, 0] ![1, n, 1024] inb).toLoadRect j
      = outAt m c (1024 * b + o + (j 1).val) (j 2).val := by
  have hs : s < 2 := by have h : s + 1 ≤ 2 := inb 0; omega
  have ho : o + (j 1).val < 1024 := by
    have h : o + n ≤ 1024 := inb 1
    have hj : (j 1).val < n := (j 1).isLt
    omega
  have hl : (j 2).val < 1024 := (j 2).isLt
  unfold View.readCov
  rw [load_run (A := 2) (B := 1024) (C := 1024) outM s o inb _ j
    (ix3 (n0 := 2) (n1 := 1024) (n2 := 1024) ⟨s, hs⟩ ⟨o + (j 1).val, ho⟩ ⟨(j 2).val, hl⟩) rfl rfl rfl]
  rw [read_store (A := 2) (B := 1024) (C := 1024) outM s 0 inbw _ w L _ (ix3 (n0 := 1) (n1 := 1024) (n2 := 1024) 0 ⟨o + (j 1).val, ho⟩ ⟨(j 2).val, hl⟩)
    rfl (Nat.zero_add _).symm rfl]
  rw [h _ (show 1024 * b + (o + (j 1).val) ≠ 0 by omega) (show 1024 * b + (o + (j 1).val) ≠ 4095 by omega)]
  show outAt m c (1024 * b + (o + (j 1).val)) (j 2).val = _
  rw [Nat.add_assoc]

/-! ## The result array -/

/-- `w` holds the result's rows from `p` on. -/
abbrev Part (c : Dev nD) {n : ℕ} (p : ℕ) (w : (⟨2, ![n, 1024]⟩ : Shape).Idx → Elt F .f32) : Prop :=
  ∀ j, w j = outAt m c (p + (j 0).val) (j 1).val

/-- One run of rows read off a list of runs: in the run, the result; elsewhere, what the rest of the list left. -/
theorem part_read (c : Dev nD) (n p : ℕ) (fo : (main_v1 : Ref sig .tc).ty.Contents (Elt F))
    (inb : ∀ a : Fin 2, (![p, 0] : Fin 2 → ℕ) a + (![n, 1024] : Fin 2 → ℕ) a ≤ (![4096, 1024] : Fin 2 → ℕ) a)
    (w : (⟨2, ![n, 1024]⟩ : Shape).Idx → Elt F .f32) (hw : Part m c p w) (L) (i : S4096x1024.Idx)
    (h : ¬ (p ≤ (i 0).val ∧ (i 0).val < p + n) →
      (oM : Memref sig .tc .hbm S4096x1024 .f32).view.read (Elt F) ((oM : Memref sig .tc .hbm S4096x1024 .f32).view.writes (Elt F) fo L) i = outVal m c i) :
    (oM : Memref sig .tc .hbm S4096x1024 .f32).view.read (Elt F) ((oM : Memref sig .tc .hbm S4096x1024 .f32).view.writes (Elt F) fo
      (⟨Rect.unit (s := (⟨2, ![4096, 1024]⟩ : Shape)) ![p, 0] ![n, 1024] inb, w⟩ :: L)) i = outVal m c i := by
  have hl : (i 1).val < 1024 := (i 1).isLt
  by_cases hr : p ≤ (i 0).val ∧ (i 0).val < p + n
  · rw [read_rows (A := 4096) (C := 1024) oM p inb fo w L i (ix2 (n0 := n) (n1 := 1024) ⟨(i 0).val - p, by omega⟩ ⟨(i 1).val, hl⟩)
      (show (i 0).val = p + ((i 0).val - p) by omega) rfl, hw]
    show outAt m c (p + ((i 0).val - p)) (i 1).val = outAt m c (i 0).val (i 1).val
    congr 1
    omega
  · rw [read_rows_other (A := 4096) (C := 1024) oM p inb fo w L i (by omega)]
    exact h hr

/-- The six copies out cover the result array: it holds the result, whatever it held before. -/
theorem result_pieces (c : Dev nD) (fo : (main_v1 : Ref sig .tc).ty.Contents (Elt F))
    (wl wf : (⟨2, ![8, 1024]⟩ : Shape).Idx → Elt F .f32) (w3 w0 : (⟨2, ![1016, 1024]⟩ : Shape).Idx → Elt F .f32)
    (w2 w1 : (⟨2, ![1024, 1024]⟩ : Shape).Idx → Elt F .f32)
    (hl : Part m c 4088 wl) (hf : Part m c 0 wf) (h3 : Part m c 3072 w3) (h2 : Part m c 2048 w2) (h0 : Part m c 8 w0) (h1 : Part m c 1024 w1)
    (i1) (i2) (i3) (i4) (i5) (i6) (i : S4096x1024.Idx) :
    (oM : Memref sig .tc .hbm S4096x1024 .f32).view.read (Elt F) ((oM : Memref sig .tc .hbm S4096x1024 .f32).view.writes (Elt F) fo
      [⟨Rect.unit (s := (⟨2, ![4096, 1024]⟩ : Shape)) ![4088, 0] ![8, 1024] i1, wl⟩,
        ⟨Rect.unit (s := (⟨2, ![4096, 1024]⟩ : Shape)) ![0, 0] ![8, 1024] i2, wf⟩,
        ⟨Rect.unit (s := (⟨2, ![4096, 1024]⟩ : Shape)) ![3072, 0] ![1016, 1024] i3, w3⟩,
        ⟨Rect.unit (s := (⟨2, ![4096, 1024]⟩ : Shape)) ![2048, 0] ![1024, 1024] i4, w2⟩,
        ⟨Rect.unit (s := (⟨2, ![4096, 1024]⟩ : Shape)) ![8, 0] ![1016, 1024] i5, w0⟩,
        ⟨Rect.unit (s := (⟨2, ![4096, 1024]⟩ : Shape)) ![1024, 0] ![1024, 1024] i6, w1⟩]) i = outVal m c i := by
  have hi : (i 0).val < 4096 := (i 0).isLt
  refine part_read m c 8 4088 fo i1 wl hl _ i fun n1 => ?_
  refine part_read m c 8 0 fo i2 wf hf _ i fun n2 => ?_
  refine part_read m c 1016 3072 fo i3 w3 h3 _ i fun n3 => ?_
  refine part_read m c 1024 2048 fo i4 w2 h2 _ i fun n4 => ?_
  refine part_read m c 1016 8 fo i5 w0 h0 _ i fun n5 => ?_
  refine part_read m c 1024 1024 fo i6 w1 h1 _ i fun n6 => ?_
  omega

end Cert.Stencil

end
-- ==== Proof.Edge.lean ====
/-
The edge buffer: the device's first and last eight result rows, and the four rows of `x` next to its ends.

Slot 0 is to hold result rows 0 to 7, slot 1 rows 4088 to 4095, slot 2 rows 0, 1, 4094, 4095 of `x`. The blocks fill all of
it but the device's first and last row (`Kept`); two of the four conditional stores then run on each device, one making the
first row (`Top`) and one the last (`Bot`).
-/
module

public import proofs.«01_k».proof.Proof.Buffers

@[expose] public section

noncomputable section

namespace Cert.Stencil

open Cert.KernelIdeal Cert.KernelIdeal.Gen

open Idealize.ShloMosaic Idealize.ShloMosaic.TcCoe Idealize.ShloMosaic.ValueIdx

variable {F : FTy → Type} [FloatOps F]

variable (m : (ℓ : Loc nD τ sig) → Buf (Elt F) ℓ)

abbrev EdgeBuf : Type := (cc0_scratch3 : Ref sig .tc).ty.Contents (Elt F)

/-- The row of `x` slot 2 holds at its row `r`. -/
def endRow (r : ℕ) : ℕ := if r < 2 then r else 4092 + r

/-- All of the edge buffer but the device's first and last row. -/
def Kept (c : Dev nD) (E : EdgeBuf (F := F)) : Prop :=
  ∀ y : S3x8x1024.Idx,
    ((y 0).val = 0 → (y 1).val ≠ 0 → (edgeM : Memref sig .tc .vmem S3x8x1024 .f32).view.read (Elt F) E y = outAt m c (y 1).val (y 2).val)
    ∧ ((y 0).val = 1 → (y 1).val ≠ 7 → (edgeM : Memref sig .tc .vmem S3x8x1024 .f32).view.read (Elt F) E y = outAt m c (4088 + (y 1).val) (y 2).val)
    ∧ ((y 0).val = 2 → (y 1).val < 4 → (edgeM : Memref sig .tc .vmem S3x8x1024 .f32).view.read (Elt F) E y = xAt m c (endRow (y 1).val) (y 2).val)

/-- The device's first row; -/
def Top (c : Dev nD) (E : EdgeBuf (F := F)) : Prop :=
  ∀ y : S3x8x1024.Idx, (y 0).val = 0 → (y 1).val = 0 → (edgeM : Memref sig .tc .vmem S3x8x1024 .f32).view.read (Elt F) E y = outAt m c 0 (y 2).val
/-- its last. -/
def Bot (c : Dev nD) (E : EdgeBuf (F := F)) : Prop :=
  ∀ y : S3x8x1024.Idx, (y 0).val = 1 → (y 1).val = 7 → (edgeM : Memref sig .tc .vmem S3x8x1024 .f32).view.read (Elt F) E y = outAt m c 4095 (y 2).val

/-! ## The stores -/

section Stores
variable (c : Dev nD) (E : EdgeBuf (F := F))

/-- The store of one row into slot `s` at row `o`. -/
abbrev putRow (s o : ℕ) (inb : ∀ a : Fin 3, (![s, o, 0] : Fin 3 → ℕ) a + (![1, 1, 1024] : Fin 3 → ℕ) a ≤ (![3, 8, 1024] : Fin 3 → ℕ) a)
    (w : S1x1x1024.Idx → Elt F .f32) (L : List (View.Piece (Elt F) S3x8x1024 .f32)) : EdgeBuf (F := F) :=
  (edgeM : Memref sig .tc .vmem S3x8x1024 .f32).view.writes (Elt F) E (⟨Rect.unit (s := (⟨3, ![3, 8, 1024]⟩ : Shape)) ![s, o, 0] ![1, 1, 1024] inb, w⟩ :: L)

omit [FloatOps F] in
theorem put_other (s o : ℕ) (inb) (w) (L) (y : S3x8x1024.Idx) (h : (y 0).val ≠ s ∨ (y 1).val ≠ o) :
    (edgeM : Memref sig .tc .vmem S3x8x1024 .f32).view.read (Elt F) (putRow E s o inb w L) y
      = (edgeM : Memref sig .tc .vmem S3x8x1024 .f32).view.read (Elt F) ((edgeM : Memref sig .tc .vmem S3x8x1024 .f32).view.writes (Elt F) E L) y :=
  read_store_other (A := 3) (B := 8) (C := 1024) edgeM s o inb E w L y (by omega)

omit [FloatOps F] in
theorem put_here (s o : ℕ) (inb) (w) (L) (y : S3x8x1024.Idx) (h0 : (y 0).val = s) (h1 : (y 1).val = o) :
    (edgeM : Memref sig .tc .vmem S3x8x1024 .f32).view.read (Elt F) (putRow E s o inb w L) y
      = w (ix3 (n0 := 1) (n1 := 1) (n2 := 1024) 0 0 ⟨(y 2).val, (y 2).isLt⟩) :=
  read_store (A := 3) (B := 8) (C := 1024) edgeM s o inb E w L y _ h0 h1 rfl

/-- A store at the first row keeps the rest, and makes the first row when it stores that; likewise at the last row. -/
theorem kept_first (inb) (w) (L) (h : Kept m c ((edgeM : Memref sig .tc .vmem S3x8x1024 .f32).view.writes (Elt F) E L)) : Kept m c (putRow E 0 0 inb w L) := by
  intro y
  obtain ⟨h0, h1, h2⟩ := h y
  refine ⟨fun a b => ?_, fun a b => ?_, fun a b => ?_⟩
  · rw [put_other E 0 0 inb w L y (by omega)]; exact h0 a b
  · rw [put_other E 0 0 inb w L y (by omega)]; exact h1 a b
  · rw [put_other E 0 0 inb w L y (by omega)]; exact h2 a b
theorem kept_last (inb) (w) (L) (h : Kept m c ((edgeM : Memref sig .tc .vmem S3x8x1024 .f32).view.writes (Elt F) E L)) : Kept m c (putRow E 1 7 inb w L) := by
  intro y
  obtain ⟨h0, h1, h2⟩ := h y
  refine ⟨fun a b => ?_, fun a b => ?_, fun a b => ?_⟩
  · rw [put_other E 1 7 inb w L y (by omega)]; exact h0 a b
  · rw [put_other E 1 7 inb w L y (by omega)]; exact h1 a b
  · rw [put_other E 1 7 inb w L y (by omega)]; exact h2 a b
theorem top_first (inb) (w : S1x1x1024.Idx → Elt F .f32) (L) (h : ∀ j : S1x1x1024.Idx, w j = outAt m c 0 (j 2).val) : Top m c (putRow E 0 0 inb w L) := by
  intro y h0 h1
  rw [put_here E 0 0 inb w L y h0 h1, h]
theorem bot_last (inb) (w : S1x1x1024.Idx → Elt F .f32) (L) (h : ∀ j : S1x1x1024.Idx, w j = outAt m c 4095 (j 2).val) : Bot m c (putRow E 1 7 inb w L) := by
  intro y h0 h1
  rw [put_here E 1 7 inb w L y h0 h1, h]
theorem top_last (inb) (w) (L) (h : Top m c ((edgeM : Memref sig .tc .vmem S3x8x1024 .f32).view.writes (Elt F) E L)) : Top m c (putRow E 1 7 inb w L) := by
  intro y h0 h1
  rw [put_other E 1 7 inb w L y (by omega)]; exact h y h0 h1

/-- The blocks' four stores make all the rest of the buffer. -/
theorem kept_blocks (f : EdgeBuf (F := F)) (w0 w1 : S1x8x1024.Idx → Elt F .f32) (x0 x1 : S1x2x1024.Idx → Elt F .f32) (i1) (i2) (i3) (i4)
    (h0 : ∀ j : S1x8x1024.Idx, (j 1).val ≠ 0 → w0 j = outAt m c (j 1).val (j 2).val)
    (h1 : ∀ j : S1x8x1024.Idx, (j 1).val ≠ 7 → w1 j = outAt m c (4088 + (j 1).val) (j 2).val)
    (h2 : ∀ j : S1x2x1024.Idx, x0 j = xAt m c (j 1).val (j 2).val) (h3 : ∀ j : S1x2x1024.Idx, x1 j = xAt m c (4094 + (j 1).val) (j 2).val) :
    Kept m c ((edgeM : Memref sig .tc .vmem S3x8x1024 .f32).view.writes (Elt F) f
      [⟨Rect.unit (s := (⟨3, ![3, 8, 1024]⟩ : Shape)) ![2, 2, 0] ![1, 2, 1024] i1, x1⟩,
        ⟨Rect.unit (s := (⟨3, ![3, 8, 1024]⟩ : Shape)) ![1, 0, 0] ![1, 8, 1024] i2, w1⟩,
        ⟨Rect.unit (s := (⟨3, ![3, 8, 1024]⟩ : Shape)) ![2, 0, 0] ![1, 2, 1024] i3, x0⟩,
        ⟨Rect.unit (s := (⟨3, ![3, 8, 1024]⟩ : Shape)) ![0, 0, 0] ![1, 8, 1024] i4, w0⟩]) := by
  intro y
  have hy : (y 1).val < 8 := (y 1).isLt
  have hl : (y 2).val < 1024 := (y 2).isLt
  refine ⟨fun a b => ?_, fun a b => ?_, fun a b => ?_⟩
  · rw [read_store_other (A := 3) (B := 8) (C := 1024) edgeM 2 2 i1 f x1 _ y (by omega),
      read_store_other (A := 3) (B := 8) (C := 1024) edgeM 1 0 i2 f w1 _ y (by omega),
      read_store_other (A := 3) (B := 8) (C := 1024) edgeM 2 0 i3 f x0 _ y (by omega),
      read_store (A := 3) (B := 8) (C := 1024) edgeM 0 0 i4 f w0 _ y (ix3 (n0 := 1) (n1 := 8) (n2 := 1024) 0 ⟨(y 1).val, hy⟩ ⟨(y 2).val, hl⟩) a (Nat.zero_add _).symm rfl]
    exact h0 _ b
  · rw [read_store_other (A := 3) (B := 8) (C := 1024) edgeM 2 2 i1 f x1 _ y (by omega),
      read_store (A := 3) (B := 8) (C := 1024) edgeM 1 0 i2 f w1 _ y (ix3 (n0 := 1) (n1 := 8) (n2 := 1024) 0 ⟨(y 1).val, hy⟩ ⟨(y 2).val, hl⟩) a (Nat.zero_add _).symm rfl]
    exact h1 _ b
  · by_cases hr : (y 1).val < 2
    · rw [read_store_other (A := 3) (B := 8) (C := 1024) edgeM 2 2 i1 f x1 _ y (by omega),
        read_store_other (A := 3) (B := 8) (C := 1024) edgeM 1 0 i2 f w1 _ y (by omega),
        read_store (A := 3) (B := 8) (C := 1024) edgeM 2 0 i3 f x0 _ y (ix3 (n0 := 1) (n1 := 2) (n2 := 1024) 0 ⟨(y 1).val, hr⟩ ⟨(y 2).val, hl⟩) a (Nat.zero_add _).symm rfl,
        h2]
      unfold endRow
      rw [if_pos hr]
    · rw [read_store (A := 3) (B := 8) (C := 1024) edgeM 2 2 i1 f x1 _ y (ix3 (n0 := 1) (n1 := 2) (n2 := 1024) 0 ⟨(y 1).val - 2, by omega⟩ ⟨(y 2).val, hl⟩) a
          (show (y 1).val = 2 + ((y 1).val - 2) by omega) rfl,
        h3]
      unfold endRow
      rw [if_neg hr]
      show xAt m c (4094 + ((y 1).val - 2)) (y 2).val = _
      congr 1
      omega

end Stores

/-! ## The readings -/

section Readings
variable (c : Dev nD) (E : EdgeBuf (F := F))

/-- A load of one row of slot 2. -/
theorem kept_load (o : ℕ) (ho : o < 4) (inb : ∀ a : Fin 3, (![2, o, 0] : Fin 3 → ℕ) a + (![1, 1, 1024] : Fin 3 → ℕ) a ≤ (![3, 8, 1024] : Fin 3 → ℕ) a)
    (h : Kept m c E) (j : S1x1x1024.Idx) :
    (edgeM : Memref sig .tc .vmem S3x8x1024 .f32).view.readAt (Elt F) (Rect.unit (s := (⟨3, ![3, 8, 1024]⟩ : Shape)) ![2, o, 0] ![1, 1, 1024] inb).toLoadRect E j
      = xAt m c (endRow o) (j 2).val := by
  have hj : (j 1).val < 1 := (j 1).isLt
  have hl : (j 2).val < 1024 := (j 2).isLt
  rw [load_run (A := 3) (B := 8) (C := 1024) edgeM 2 o inb E j (ix3 (n0 := 3) (n1 := 8) (n2 := 1024) 2 ⟨o, by omega⟩ ⟨(j 2).val, hl⟩) rfl
    (show o = o + (j 1).val by omega) rfl]
  exact (h _).2.2 rfl ho

/-- The same right after stores `L` that reach the row. -/
theorem kept_cov (L) (o : ℕ) (ho : o < 4) (inb : ∀ a : Fin 3, (![2, o, 0] : Fin 3 → ℕ) a + (![1, 1, 1024] : Fin 3 → ℕ) a ≤ (![3, 8, 1024] : Fin 3 → ℕ) a)
    (h : Kept m c ((edgeM : Memref sig .tc .vmem S3x8x1024 .f32).view.writes (Elt F) ((edgeM : Memref sig .tc .vmem S3x8x1024 .f32).view.junk (Val := Elt F)) L)) (j : S1x1x1024.Idx) :
    (edgeM : Memref sig .tc .vmem S3x8x1024 .f32).view.readCov L (Rect.unit (s := (⟨3, ![3, 8, 1024]⟩ : Shape)) ![2, o, 0] ![1, 1, 1024] inb).toLoadRect j
      = xAt m c (endRow o) (j 2).val :=
  kept_load m c _ o ho inb h j

/-- The copies out of slots 0 and 1 read the device's first and last eight result rows. -/
theorem edge_first (inb : ∀ a : Fin 3, (![0, 0, 0] : Fin 3 → ℕ) a + (![1, 8, 1024] : Fin 3 → ℕ) a ≤ (![3, 8, 1024] : Fin 3 → ℕ) a) (hst)
    (hq : (⟨3, ![1, 8, 1024]⟩ : Shape).Squeezes ⟨2, ![8, 1024]⟩) (hk : Kept m c E) (ht : Top m c E) :
    Part m c 0 ((((edgeM : Memref sig .tc .vmem S3x8x1024 .f32).slice (Rect.unit (s := (⟨3, ![3, 8, 1024]⟩ : Shape)) ![0, 0, 0] ![1, 8, 1024] inb) hst).squeeze
      ⟨2, ![8, 1024]⟩ hq).view.read (Elt F) E) := by
  intro j
  have hj : (j 0).val < 8 := (j 0).isLt
  have hl : (j 1).val < 1024 := (j 1).isLt
  rw [read_run (A := 3) (B := 8) (C := 1024) edgeM 0 0 inb hst hq E j (ix3 (n0 := 3) (n1 := 8) (n2 := 1024) 0 ⟨(j 0).val, hj⟩ ⟨(j 1).val, hl⟩) rfl
    (Nat.zero_add _).symm rfl, Nat.zero_add]
  by_cases h0 : (j 0).val = 0
  · exact (ht _ rfl h0).trans (congrArg (outAt m c · (j 1).val) h0.symm)
  · exact (hk _).1 rfl h0
theorem edge_last (inb : ∀ a : Fin 3, (![1, 0, 0] : Fin 3 → ℕ) a + (![1, 8, 1024] : Fin 3 → ℕ) a ≤ (![3, 8, 1024] : Fin 3 → ℕ) a) (hst)
    (hq : (⟨3, ![1, 8, 1024]⟩ : Shape).Squeezes ⟨2, ![8, 1024]⟩) (hk : Kept m c E) (hb : Bot m c E) :
    Part m c 4088 ((((edgeM : Memref sig .tc .vmem S3x8x1024 .f32).slice (Rect.unit (s := (⟨3, ![3, 8, 1024]⟩ : Shape)) ![1, 0, 0] ![1, 8, 1024] inb) hst).squeeze
      ⟨2, ![8, 1024]⟩ hq).view.read (Elt F) E) := by
  intro j
  have hj : (j 0).val < 8 := (j 0).isLt
  have hl : (j 1).val < 1024 := (j 1).isLt
  rw [read_run (A := 3) (B := 8) (C := 1024) edgeM 1 0 inb hst hq E j (ix3 (n0 := 3) (n1 := 8) (n2 := 1024) 1 ⟨(j 0).val, hj⟩ ⟨(j 1).val, hl⟩) rfl
    (Nat.zero_add _).symm rfl]
  by_cases h7 : (j 0).val = 7
  · exact (hb _ rfl h7).trans (congrArg (outAt m c · (j 1).val) (show 4095 = 4088 + (j 0).val by omega))
  · exact (hk _).2.1 rfl h7

omit [FloatOps F] in
/-- A load of the left neighbour's last row, of the right neighbour's first. -/
theorem halo_load_first (inb : ∀ a : Fin 3, (![0, 7, 0] : Fin 3 → ℕ) a + (![1, 1, 1024] : Fin 3 → ℕ) a ≤ (![2, 8, 1024] : Fin 3 → ℕ) a) (j : S1x1x1024.Idx) :
    (haloM : Memref sig .tc .vmem S2x8x1024 .f32).view.readAt (Elt F) (Rect.unit (s := (⟨3, ![2, 8, 1024]⟩ : Shape)) ![0, 7, 0] ![1, 1, 1024] inb).toLoadRect (halo m c) j
      = xAt m (prv c) 4095 (j 2).val := by
  have hj : (j 1).val < 1 := (j 1).isLt
  have hl : (j 2).val < 1024 := (j 2).isLt
  rw [load_run (A := 2) (B := 8) (C := 1024) haloM 0 7 inb (halo m c) j (ix3 (n0 := 2) (n1 := 8) (n2 := 1024) 0 7 ⟨(j 2).val, hl⟩) rfl
    (show 7 = 7 + (j 1).val by omega) rfl]
  exact halo_first m c (ix3 (n0 := 2) (n1 := 8) (n2 := 1024) 0 7 ⟨(j 2).val, hl⟩) rfl
omit [FloatOps F] in
theorem halo_load_second (inb : ∀ a : Fin 3, (![1, 0, 0] : Fin 3 → ℕ) a + (![1, 1, 1024] : Fin 3 → ℕ) a ≤ (![2, 8, 1024] : Fin 3 → ℕ) a) (j : S1x1x1024.Idx) :
    (haloM : Memref sig .tc .vmem S2x8x1024 .f32).view.readAt (Elt F) (Rect.unit (s := (⟨3, ![2, 8, 1024]⟩ : Shape)) ![1, 0, 0] ![1, 1, 1024] inb).toLoadRect (halo m c) j
      = xAt m (nxt c) 0 (j 2).val := by
  have hj : (j 1).val < 1 := (j 1).isLt
  have hl : (j 2).val < 1024 := (j 2).isLt
  rw [load_run (A := 2) (B := 8) (C := 1024) haloM 1 0 inb (halo m c) j (ix3 (n0 := 2) (n1 := 8) (n2 := 1024) 1 0 ⟨(j 2).val, hl⟩) rfl
    (show 0 = 0 + (j 1).val by omega) rfl]
  exact halo_second m c (ix3 (n0 := 2) (n1 := 8) (n2 := 1024) 1 0 ⟨(j 2).val, hl⟩) rfl

end Readings

/-! ## The first and the last row of a device -/

/-- On device 0 the first row is `x`'s own; elsewhere it is made with the left neighbour's last row. -/
theorem outAt_first_copy (c : Dev nD) (h : c.val = 0) (l : ℕ) : outAt m c 0 l = xAt m c 0 l := by unfold outAt; rw [if_pos rfl, if_pos h]
theorem outAt_first (c : Dev nD) (h : c.val ≠ 0) (l : ℕ) : outAt m c 0 l = st (xAt m (prv c) 4095 l) (xAt m c 0 l) (xAt m c 1 l) := by
  unfold outAt; rw [if_pos rfl, if_neg h]
/-- On device 7 the last row is `x`'s own; elsewhere it is made with the right neighbour's first row. -/
theorem outAt_last_copy (c : Dev nD) (h : c.val = 7) (l : ℕ) : outAt m c 4095 l = xAt m c 4095 l := by
  unfold outAt; rw [if_neg (by decide), if_pos rfl, if_pos h]
theorem outAt_last (c : Dev nD) (h : c.val ≠ 7) (l : ℕ) : outAt m c 4095 l = st (xAt m c 4094 l) (xAt m c 4095 l) (xAt m (nxt c) 0 l) := by
  unfold outAt; rw [if_neg (by decide), if_pos rfl, if_neg h]

/-! ## The four conditional stores, each made when its condition `p` holds -/

section Stages
variable (c : Dev nD) (p : Prop) [Decidable p] (E : EdgeBuf (F := F)) (inb0) (inb7) (w : S1x1x1024.Idx → Elt F .f32)

/-- The first copies `x`'s own first row, on device 0; -/
theorem stage1 (L) (hp : p ↔ c.val = 0) (hk : Kept m c ((edgeM : Memref sig .tc .vmem S3x8x1024 .f32).view.writes (Elt F) E L))
    (hw : ∀ j : S1x1x1024.Idx, w j = xAt m c 0 (j 2).val) :
    Kept m c (dite p (fun _ => putRow E 0 0 inb0 w L) fun _ => (edgeM : Memref sig .tc .vmem S3x8x1024 .f32).view.writes (Elt F) E L)
      ∧ (c.val = 0 → Top m c (dite p (fun _ => putRow E 0 0 inb0 w L) fun _ => (edgeM : Memref sig .tc .vmem S3x8x1024 .f32).view.writes (Elt F) E L)) := by
  by_cases h : p
  · rw [dif_pos h]
    exact ⟨kept_first m c E inb0 w L hk, fun h0 => top_first m c E inb0 w L fun j => (hw j).trans (outAt_first_copy m c h0 _).symm⟩
  · rw [dif_neg h]
    exact ⟨hk, fun h0 => absurd (hp.mpr h0) h⟩

/-- the second makes the first row everywhere else; -/
theorem stage2 (hp : p ↔ c.val ≠ 0) (hk : Kept m c E) (ht : c.val = 0 → Top m c E)
    (hw : ∀ j : S1x1x1024.Idx, w j = st (xAt m (prv c) 4095 (j 2).val) (xAt m c 0 (j 2).val) (xAt m c 1 (j 2).val)) :
    Kept m c (dite p (fun _ => putRow E 0 0 inb0 w []) fun _ => E) ∧ Top m c (dite p (fun _ => putRow E 0 0 inb0 w []) fun _ => E) := by
  by_cases h : p
  · rw [dif_pos h]
    exact ⟨kept_first m c E inb0 w [] hk, top_first m c E inb0 w [] fun j => (hw j).trans (outAt_first m c (hp.mp h) _).symm⟩
  · rw [dif_neg h]
    exact ⟨hk, ht (not_not.mp fun h0 => h (hp.mpr h0))⟩

/-- the third copies `x`'s own last row, on device 7; -/
theorem stage3 (hp : p ↔ c.val = 7) (hk : Kept m c E) (ht : Top m c E) (hw : ∀ j : S1x1x1024.Idx, w j = xAt m c 4095 (j 2).val) :
    Kept m c (dite p (fun _ => putRow E 1 7 inb7 w []) fun _ => E) ∧ Top m c (dite p (fun _ => putRow E 1 7 inb7 w []) fun _ => E)
      ∧ (c.val = 7 → Bot m c (dite p (fun _ => putRow E 1 7 inb7 w []) fun _ => E)) := by
  by_cases h : p
  · rw [dif_pos h]
    exact ⟨kept_last m c E inb7 w [] hk, top_last m c E inb7 w [] ht, fun h7 => bot_last m c E inb7 w [] fun j => (hw j).trans (outAt_last_copy m c h7 _).symm⟩
  · rw [dif_neg h]
    exact ⟨hk, ht, fun h7 => absurd (hp.mpr h7) h⟩

/-- the fourth makes the last row everywhere else. -/
theorem stage4 (hp : p ↔ c.val ≠ 7) (hk : Kept m c E) (ht : Top m c E) (hb : c.val = 7 → Bot m c E)
    (hw : ∀ j : S1x1x1024.Idx, w j = st (xAt m c 4094 (j 2).val) (xAt m c 4095 (j 2).val) (xAt m (nxt c) 0 (j 2).val)) :
    Kept m c (dite p (fun _ => putRow E 1 7 inb7 w []) fun _ => E) ∧ Top m c (dite p (fun _ => putRow E 1 7 inb7 w []) fun _ => E)
      ∧ Bot m c (dite p (fun _ => putRow E 1 7 inb7 w []) fun _ => E) := by
  by_cases h : p
  · rw [dif_pos h]
    exact ⟨kept_last m c E inb7 w [] hk, top_last m c E inb7 w [] ht, bot_last m c E inb7 w [] fun j => (hw j).trans (outAt_last m c (hp.mp h) _).symm⟩
  · rw [dif_neg h]
    exact ⟨hk, ht, hb (not_not.mp fun h7 => h (hp.mpr h7))⟩

end Stages

end Cert.Stencil

end
-- ==== Proof.Land.lean ====
/-
The exchange of rows: what a copy leaves in the neighbour's landing place is what the protocol says it hands over; and the
two landing places are the whole landing buffer.
-/
module

public import proofs.«01_k».proof.Proof.Buffers
public import Idealize.ShloMosaic.Lib.ViewIndex

@[expose] public section

noncomputable section

namespace Cert.Stencil

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

omit [FloatOps F] in
/-- The first landing place reads, in the filled landing buffer, the left neighbour's last eight rows; -/
theorem read_landL (c : Dev nD) (j : S8x1024.Idx) :
    (landL : Memref sig .tc .vmem S8x1024 .f32).view.read (Elt F) (halo m c) j = xAt m (prv c) (4088 + (j 0).val) (j 1).val := by
  have hj : (j 0).val < 8 := (j 0).isLt
  have hl : (j 1).val < 1024 := (j 1).isLt
  exact (read_run (A := 2) (B := 8) (C := 1024) haloM 0 0 inb_S2x8x1024_S1x8x1024_0_0_0 (fun _ => rfl) squeezes_S1x8x1024_S8x1024 (halo m c) j
    (ix3 (n0 := 2) (n1 := 8) (n2 := 1024) 0 ⟨(j 0).val, hj⟩ ⟨(j 1).val, hl⟩) rfl (Nat.zero_add _).symm rfl).trans
    (halo_first m c (ix3 (n0 := 2) (n1 := 8) (n2 := 1024) 0 ⟨(j 0).val, hj⟩ ⟨(j 1).val, hl⟩) rfl)
omit [FloatOps F] in
/-- the second the right neighbour's first eight. -/
theorem read_landR (c : Dev nD) (j : S8x1024.Idx) :
    (landR : Memref sig .tc .vmem S8x1024 .f32).view.read (Elt F) (halo m c) j = xAt m (nxt c) (j 0).val (j 1).val := by
  have hj : (j 0).val < 8 := (j 0).isLt
  have hl : (j 1).val < 1024 := (j 1).isLt
  exact (read_run (A := 2) (B := 8) (C := 1024) haloM 1 0 inb_S2x8x1024_S1x8x1024_1_0_0 (fun _ => rfl) squeezes_S1x8x1024_S8x1024 (halo m c) j
    (ix3 (n0 := 2) (n1 := 8) (n2 := 1024) 1 ⟨(j 0).val, hj⟩ ⟨(j 1).val, hl⟩) rfl (Nat.zero_add _).symm rfl).trans
    (halo_second m c (ix3 (n0 := 2) (n1 := 8) (n2 := 1024) 1 ⟨(j 0).val, hj⟩ ⟨(j 1).val, hl⟩) rfl)

omit [FloatOps F] in
/-- The copy to the right fills the right neighbour's first landing place; -/
theorem land_right (c : Dev nD) (g) :
    ((landL : Memref sig .tc .vmem S8x1024 .f32).view.loc (nxt c : Thread nD τ) ↦[(landL : Memref sig .tc .vmem S8x1024 .f32).view.set]{fullShare}
      ((landL : Memref sig .tc .vmem S8x1024 .f32).view.write (Elt F) g ((lastRows : Memref sig .tc .hbm S8x1024 .f32).view.read (Elt F) (X m c)) Finset.univ) : sProp 𝕄)
      ⊢ (ringRd (F := F) m).payload (recvLCell (nxt c)) 0 false := by
  rw [payload_recvL]
  refine Entails.of_eq (pointsTo_congr fun i hi => ?_)
  obtain ⟨j, -, rfl⟩ := Finset.mem_map.mp hi
  refine View.eq_of_read_eq ?_
  rw [View.read_write_univ, read_landL, prv_nxt]
  exact rows_of_x m (n := 8) (p := 4088) c inb_S4096x1024_S8x1024_4088_0 (fun _ => rfl) j
omit [FloatOps F] in
/-- the copy to the left the left neighbour's second. -/
theorem land_left (c : Dev nD) (g) :
    ((landR : Memref sig .tc .vmem S8x1024 .f32).view.loc (prv c : Thread nD τ) ↦[(landR : Memref sig .tc .vmem S8x1024 .f32).view.set]{fullShare}
      ((landR : Memref sig .tc .vmem S8x1024 .f32).view.write (Elt F) g ((firstRows : Memref sig .tc .hbm S8x1024 .f32).view.read (Elt F) (X m c)) Finset.univ) : sProp 𝕄)
      ⊢ (ringRd (F := F) m).payload (recvRCell (prv c)) 0 false := by
  rw [payload_recvR]
  refine Entails.of_eq (pointsTo_congr fun i hi => ?_)
  obtain ⟨j, -, rfl⟩ := Finset.mem_map.mp hi
  refine View.eq_of_read_eq ?_
  rw [View.read_write_univ, read_landR, nxt_prv]
  refine (rows_of_x m (n := 8) (p := 0) c inb_S4096x1024_S8x1024_0_0 (fun _ => rfl) j).trans ?_
  rw [Nat.zero_add]

/-! ## The landing buffer -/

theorem mem_landL (i : S2x8x1024.Idx) : i ∈ (landL : Memref sig .tc .vmem S8x1024 .f32).view.set ↔ (i 0).val = 0 := by
  show i ∈ (((haloM : Memref sig .tc .vmem S2x8x1024 .f32).slice (Rect.unit (s := S2x8x1024) ![0, 0, 0] S1x8x1024.size inb_S2x8x1024_S1x8x1024_0_0_0) (fun _ => rfl)).squeeze
    S8x1024 squeezes_S1x8x1024_S8x1024).view.set ↔ _
  rw [Memref.set_view_squeeze]
  show i ∈ ((View.whole cc0_scratch2).slice (Rect.unit (s := S2x8x1024) ![0, 0, 0] S1x8x1024.size inb_S2x8x1024_S1x8x1024_0_0_0)).set ↔ _
  rw [View.set_slice_whole, Rect.mem_set_unit]
  have h1 : (i 1).val < 8 := (i 1).isLt
  have h2 : (i 2).val < 1024 := (i 2).isLt
  constructor
  · intro h
    have h0 : 0 ≤ (i 0).val ∧ (i 0).val < 0 + 1 := h 0
    omega
  · intro h a
    fin_cases a
    · show 0 ≤ (i 0).val ∧ (i 0).val < 0 + 1; omega
    · show 0 ≤ (i 1).val ∧ (i 1).val < 0 + 8; omega
    · show 0 ≤ (i 2).val ∧ (i 2).val < 0 + 1024; omega

theorem mem_landR (i : S2x8x1024.Idx) : i ∈ (landR : Memref sig .tc .vmem S8x1024 .f32).view.set ↔ (i 0).val = 1 := by
  show i ∈ (((haloM : Memref sig .tc .vmem S2x8x1024 .f32).slice (Rect.unit (s := S2x8x1024) ![1, 0, 0] S1x8x1024.size inb_S2x8x1024_S1x8x1024_1_0_0) (fun _ => rfl)).squeeze
    S8x1024 squeezes_S1x8x1024_S8x1024).view.set ↔ _
  rw [Memref.set_view_squeeze]
  show i ∈ ((View.whole cc0_scratch2).slice (Rect.unit (s := S2x8x1024) ![1, 0, 0] S1x8x1024.size inb_S2x8x1024_S1x8x1024_1_0_0)).set ↔ _
  rw [View.set_slice_whole, Rect.mem_set_unit]
  have h1 : (i 1).val < 8 := (i 1).isLt
  have h2 : (i 2).val < 1024 := (i 2).isLt
  constructor
  · intro h
    have h0 : 1 ≤ (i 0).val ∧ (i 0).val < 1 + 1 := h 0
    omega
  · intro h a
    fin_cases a
    · show 1 ≤ (i 0).val ∧ (i 0).val < 1 + 1; omega
    · show 0 ≤ (i 1).val ∧ (i 1).val < 0 + 8; omega
    · show 0 ≤ (i 2).val ∧ (i 2).val < 0 + 1024; omega

theorem lands_disjoint : Disjoint (landL : Memref sig .tc .vmem S8x1024 .f32).view.set (landR : Memref sig .tc .vmem S8x1024 .f32).view.set :=
  Finset.disjoint_left.mpr fun i h h' => by have h := (mem_landL i).mp h; have h' := (mem_landR i).mp h'; omega
theorem lands_whole : (landL : Memref sig .tc .vmem S8x1024 .f32).view.set ∪ (landR : Memref sig .tc .vmem S8x1024 .f32).view.set = Finset.univ := by
  ext i
  have h0 : (i 0).val < 2 := (i 0).isLt
  refine ⟨fun _ => Finset.mem_univ _, fun _ => Finset.mem_union.mpr ?_⟩
  rw [mem_landL, mem_landR]
  omega

omit [FloatOps F] in
/-- The landing buffer is its two landing places. -/
theorem halo_split (c : Dev nD) (f : (cc0_scratch2 : Ref sig .tc).ty.Contents (Elt F)) :
    (((c : Thread nD τ).loc cc0_scratch2 ↦{fullShare} f) : sProp 𝕄) ⊣⊢ iprop(landLPts c f ∗ landRPts c f) := by
  have h := pointsTo_union (nD := nD) (τ := τ) (sig := sig) (Ix := Unit) (Val := Elt F) (Name := ℕ) (U := UU) (Lvl := ℕ)
    (ℓ := (c : Thread nD τ).loc cc0_scratch2) (q := fullShare) (f := f) lands_disjoint
  rw [lands_whole] at h
  exact h

end Cert.Stencil

end
-- ==== Proof.Body.lean ====
/-
One device's run of the kernel's body, from its shares of the buffers and its place in the protocol to its result.

The run is made once, at a symbolic device. What it leaves in the result array is returned with it as an explicit term over
what the buffers held at the start; Values.lean shows that the term is the smoothed block, whatever they held.
-/
module

public import proofs.«01_k».proof.Proof.Land

@[expose] public section

noncomputable section

namespace Cert.Stencil

open Cert.KernelIdeal Cert.KernelIdeal.Gen

open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The cells' invariants device `c`'s body opens. -/
def invs (K : Dev nD × Fin 5 → ℕ) (c : Dev nD) : sProp 𝕄 :=
  iprop(cellInv ER (ringRd m) (K (c, 0)) (barCell c) ∗ cellInv ER (ringRd m) (K (c, 1)) (sendRCell c) ∗ cellInv ER (ringRd m) (K (c, 2)) (sendLCell c)
    ∗ cellInv ER (ringRd m) (K (c, 3)) (recvLCell c) ∗ cellInv ER (ringRd m) (K (c, 4)) (recvRCell c)
    ∗ cellInv ER (ringRd m) (K (nxt c, 0)) (barCell (nxt c)) ∗ cellInv ER (ringRd m) (K (prv c, 0)) (barCell (prv c))
    ∗ cellInv ER (ringRd m) (K (nxt c, 3)) (recvLCell (nxt c)) ∗ cellInv ER (ringRd m) (K (prv c, 4)) (recvRCell (prv c)))

omit [FloatOps F] in
theorem payload_recvL' (c : Dev nD) (d : Bool) : (ringRd (F := F) m).payload (recvLCell c) 0 d =
    ((landL : Memref sig .tc .vmem S8x1024 .f32).view.loc (c : Thread nD τ) ↦[(landL : Memref sig .tc .vmem S8x1024 .f32).view.set]{fullShare} halo m c) :=
  payload_recvL m c d
omit [FloatOps F] in
theorem payload_recvR' (c : Dev nD) (d : Bool) : (ringRd (F := F) m).payload (recvRCell c) 0 d =
    ((landR : Memref sig .tc .vmem S8x1024 .f32).view.loc (c : Thread nD τ) ↦[(landR : Memref sig .tc .vmem S8x1024 .f32).view.set]{fullShare} halo m c) :=
  payload_recvR m c d
omit [FloatOps F] in
theorem payload_sendR' (c : Dev nD) (d : Bool) : (ringRd (F := F) m).payload (sendRCell c) 0 d =
    ((lastRows : Memref sig .tc .hbm S8x1024 .f32).view.loc (c : Thread nD τ) ↦[(lastRows : Memref sig .tc .hbm S8x1024 .f32).view.set]{qR} X m c) :=
  payload_sendR m c d
omit [FloatOps F] in
theorem payload_sendL' (c : Dev nD) (d : Bool) : (ringRd (F := F) m).payload (sendLCell c) 0 d =
    ((firstRows : Memref sig .tc .hbm S8x1024 .f32).view.loc (c : Thread nD τ) ↦[(firstRows : Memref sig .tc .hbm S8x1024 .f32).view.set]{qL} X m c) :=
  payload_sendL m c d

attribute [local sl_rounds] duties_bar duties_sendR duties_sendL duties_recvL duties_recvR amount_bar amount_dma expect_bar
  payload_bar_true payload_bar_false payload_recvL' payload_recvR' payload_sendR' payload_sendL'
  nxt_prv prv_nxt

omit [FloatOps F] in
/-- The barrier cell's whole round: both neighbours' landing places. -/
theorem bar_all (c : Dev nD) : bigSep Finset.univ (fun d => (ringRd (F := F) m).payload (barCell c) 0 d) = iprop(barPayL c ∗ barPayR c) := by
  rw [← rest_bar m c, Finset.sdiff_empty, duties_bar]

/-- What device `c`'s body starts from: the invariants, that it may wait on its barrier, its positions at round 0 of its own
five cells, the reached-marks and duty tokens of the cells it pays, its six own counters at zero, its credits, what it owes;
`x` in four shares, the result, the four scratch buffers, its landing places spelt as its neighbours' payloads. -/
def bodyPre (K : Dev nD × Fin 5 → ℕ) (c : Dev nD) (f0 : (cc0_scratch0 : Ref sig .tc).ty.Contents (Elt F)) (f1 : (cc0_scratch1 : Ref sig .tc).ty.Contents (Elt F))
    (f3 : (cc0_scratch3 : Ref sig .tc).ty.Contents (Elt F)) (fo : (main_v1 : Ref sig .tc).ty.Contents (Elt F)) (W : Waits sig Unit) : sProp 𝕄 :=
    iprop(invs m K c ∗ (MayWait (c : Thread nD τ) (.reg barS) () (Ocopy c))
      ∗ (atPos ER (barCell c) 0 ∅ 0 ∗ atPos ER (sendRCell c) 0 ∅ 0 ∗ atPos ER (sendLCell c) 0 ∅ 0 ∗ atPos ER (recvLCell c) 0 ∅ 0 ∗ atPos ER (recvRCell c) 0 ∅ 0)
      ∗ (reached ER (barCell (nxt c)) 0 ∗ reached ER (barCell (prv c)) 0 ∗ reached ER (recvLCell (nxt c)) 0 ∗ reached ER (recvRCell (prv c)) 0
          ∗ reached ER (sendRCell c) 0 ∗ reached ER (sendLCell c) 0 ∗ reached ER (recvLCell c) 0 ∗ reached ER (recvRCell c) 0)
      ∗ (dutyTok ER (barCell (prv c)) 0 true ∗ dutyTok ER (barCell (nxt c)) 0 false
          ∗ dutyTok ER (recvLCell (nxt c)) 0 false ∗ dutyTok ER (recvRCell (prv c)) 0 false ∗ dutyTok ER (sendRCell c) 0 false ∗ dutyTok ER (sendLCell c) 0 false)
      ∗ (semVal ((c : Thread nD τ), .dma in0) 0 ∗ semVal ((c : Thread nD τ), .dma in1) 0 ∗ semVal ((c : Thread nD τ), .dma out0) 0
        ∗ semVal ((c : Thread nD τ), .dma out1) 0 ∗ semVal ((c : Thread nD τ), .dma edge0) 0 ∗ semVal ((c : Thread nD τ), .dma edge1) 0)
      ∗ (cred (tallyAt (barCell c) () 2) ∗ cred (tallyAt (recvLCell c) () N) ∗ cred (tallyAt (recvRCell c) () N))
      ∗ owes (c : Thread nD τ) (O₀ c) W
      ∗ (xM.view.loc (c : Thread nD τ) ↦{qIn0} X m c) ∗ (xM.view.loc (c : Thread nD τ) ↦{qIn1} X m c) ∗ lastPts m c ∗ firstPts m c
      ∗ (oM.view.loc (c : Thread nD τ) ↦{fullShare} fo)
      ∗ (inM.view.loc (c : Thread nD τ) ↦{fullShare} f0) ∗ (outM.view.loc (c : Thread nD τ) ↦{fullShare} f1)
      ∗ barPayR (prv c) ∗ barPayL (nxt c) ∗ (edgeM.view.loc (c : Thread nD τ) ↦{fullShare} f3))

/-- What it ends with: every counter at zero, `x` back in its four shares, the result array holding `f`, the scratch buffers back, nothing owed. -/
def bodyPost (c : Dev nD) (f : (main_v1 : Ref sig .tc).ty.Contents (Elt F)) : sProp 𝕄 :=
  iprop((semVal (barCell c) 0 ∗ semVal (sendRCell c) 0 ∗ semVal (sendLCell c) 0 ∗ semVal (recvLCell c) 0 ∗ semVal (recvRCell c) 0)
    ∗ (semVal ((c : Thread nD τ), .dma in0) 0 ∗ semVal ((c : Thread nD τ), .dma in1) 0 ∗ semVal ((c : Thread nD τ), .dma out0) 0
      ∗ semVal ((c : Thread nD τ), .dma out1) 0 ∗ semVal ((c : Thread nD τ), .dma edge0) 0 ∗ semVal ((c : Thread nD τ), .dma edge1) 0)
    ∗ ((xM.view.loc (c : Thread nD τ) ↦{qIn0} X m c) ∗ (xM.view.loc (c : Thread nD τ) ↦{qIn1} X m c) ∗ lastPts m c ∗ firstPts m c)
    ∗ (oM.view.loc (c : Thread nD τ) ↦{fullShare} f)
    ∗ (∃ f, inM.view.loc (c : Thread nD τ) ↦{fullShare} f) ∗ (∃ f, outM.view.loc (c : Thread nD τ) ↦{fullShare} f)
    ∗ (∃ f, edgeM.view.loc (c : Thread nD τ) ↦{fullShare} f) ∗ landLPts c (halo m c) ∗ landRPts c (halo m c)
    ∗ (∃ W, owes (c : Thread nD τ) 0 W))

set_option sl_exec.dmaWindow true in
set_option maxHeartbeats 4000000 in
/-- Device `c`'s kernel, run from `bodyPre` to `bodyPost`, with what it leaves in the result array. -/
def bodyRun (K : Dev nD × Fin 5 → ℕ) (c : Dev nD) (f0 : (cc0_scratch0 : Ref sig .tc).ty.Contents (Elt F)) (f1 : (cc0_scratch1 : Ref sig .tc).ty.Contents (Elt F))
    (f3 : (cc0_scratch3 : Ref sig .tc).ty.Contents (Elt F)) (fo : (main_v1 : Ref sig .tc).ty.Contents (Elt F)) (W : Waits sig Unit) :
    {f : (main_v1 : Ref sig .tc).ty.Contents (Elt F) //
      bodyPre m K c f0 f1 f3 fo W ⊢ wp frame (wpE (defs₀ (F := F)) 𝒱₀ c none) Set.univ (bodyAt0 t0_0) fun _ => bodyPost m c f} := by
  refine ⟨?_, ?_⟩
  rotate_left
  have hd1 := dev1_eq c
  have hd2 := dev2_eq c
  have hd3 := dev3_eq c
  have hd4 := dev4_eq c
  unfold bodyPre
  unfold bodyAt0; rw [cc0_body_eq_skeleton]; unfold cc0_body_skel
  unfold invs lastPts firstPts O₀ Osig Ocopy

  iintro ⟨⟨#HIbar, #HIsR, #HIsL, #HIrL, #HIrR, #HIbN, #HIbP, #HIrLN, #HIrRP⟩, Hmw, ⟨HaB, HaSR, HaSL, HaRL, HaRR⟩,
    ⟨#HrBN, #HrBP, #HrLN, #HrRP, #HrSR, #HrSL, #HrL, #HrR⟩, ⟨HtBP, HtBN, HtLN, HtRP, HtSR, HtSL⟩,
    ⟨Hi0, Hi1, Ho0, Ho1, He0, He1⟩, ⟨HcB, HcL, HcR⟩, HO, HxA, HxB, HxR, HxL, Hout, Hin, Hob, HpR, HpL, Hed⟩
  sl_exec
  ihave Hp := (Entails.of_eq (bar_all m c)) $$ HaB_pay1
  unfold barPayL barPayR landLPts landRPts
  icases Hp with ⟨⟨⟨%g2, HdR⟩, -⟩, ⟨%g1, HdL⟩, -⟩
  iapply (Rounds.wp_send_pointsTo 𝒱₀ ER (ringRd m) (c : Thread nD τ) none (κ₁ := K (c, 1)) (κ₂ := K (nxt c, 3)) (r₁ := 0) (r₂ := 0) (d₁ := false) (d₂ := false)
    (fd := g1) (by rw [duties_sendR]; exact Finset.mem_singleton_self _) (by rw [duties_recvL]; exact Finset.mem_singleton_self _) () () N rfl (amount_dma m c _ false) (amount_dma m (nxt c) _ false)
    (tallyAt (recvRCell (prv c)) () N) rfl (Entails.of_eq (payload_sendR m c false).symm) (land_right m c g1)) $$ [HxR HdL HO HtSR HtLN]
  · isplitr; · iexact HIsR
    isplitr; · iexact HIrLN
    isplitl [HxR]; · iexact HxR
    isplitl [HdL]; · iexact HdL
    isplitl [HO]; · iexact HO
    isplitl [HtSR]; · iexact HtSR
    isplitr; · iexact HrSR
    isplitl [HtLN]; · iexact HtLN
    iexact HrLN
  iintro ⟨HcSR, HO⟩
  sl_exec
  iapply (Rounds.wp_send_pointsTo 𝒱₀ ER (ringRd m) (c : Thread nD τ) none (κ₁ := K (c, 2)) (κ₂ := K (prv c, 4)) (r₁ := 0) (r₂ := 0) (d₁ := false) (d₂ := false)
    (fd := g2) (by rw [duties_sendL]; exact Finset.mem_singleton_self _) (by rw [duties_recvR]; exact Finset.mem_singleton_self _) () () N rfl (amount_dma m c _ false) (amount_dma m (prv c) _ false)
    0 (zero_add _).symm (Entails.of_eq (payload_sendL m c false).symm) (land_left m c g2)) $$ [HxL HdR HO HtSL HtRP]
  · isplitr; · iexact HIsL
    isplitr; · iexact HIrRP
    isplitl [HxL]; · iexact HxL
    isplitl [HdR]; · iexact HdR
    isplitl [HO]; · iexact HO
    isplitl [HtSL]; · iexact HtSL
    isplitr; · iexact HrSL
    isplitl [HtRP]; · iexact HtRP
    iexact HrRP
  iintro ⟨HcSL, HO⟩
  sl_exec
  imod (Rounds.cell_close ER (ringRd m) (Set.mem_univ (K (c, 0))) (fun h => h) (R := 0 + 1) (duties_later m (barCell c))) $$ [HaB] with HzB
  · isplitr; · iexact HIbar
    iexact HaB
  imod (Rounds.cell_close ER (ringRd m) (Set.mem_univ (K (c, 1))) (fun h => h) (R := 0 + 1) (duties_later m (sendRCell c))) $$ [HaSR] with HzSR
  · isplitr; · iexact HIsR
    iexact HaSR
  imod (Rounds.cell_close ER (ringRd m) (Set.mem_univ (K (c, 2))) (fun h => h) (R := 0 + 1) (duties_later m (sendLCell c))) $$ [HaSL] with HzSL
  · isplitr; · iexact HIsL
    iexact HaSL
  imod (Rounds.cell_close ER (ringRd m) (Set.mem_univ (K (c, 3))) (fun h => h) (R := 0 + 1) (duties_later m (recvLCell c))) $$ [HaRL] with HzRL
  · isplitr; · iexact HIrL
    iexact HaRL
  imod (Rounds.cell_close ER (ringRd m) (Set.mem_univ (K (c, 4))) (fun h => h) (R := 0 + 1) (duties_later m (recvRCell c))) $$ [HaRR] with HzRR
  · isplitr; · iexact HIrR
    iexact HaRR
  rw [wp_ret]; imodintro
  unfold bodyPost lastPts firstPts landLPts landRPts
  isplitl [HzB HzSR HzSL HzRL HzRR]
  · isplitl [HzB]; · iexact HzB
    isplitl [HzSR]; · iexact HzSR
    isplitl [HzSL]; · iexact HzSL
    isplitl [HzRL]; · iexact HzRL
    iexact HzRR
  isplitl [Hi0 Hi1 Ho0 Ho1 He0 He1]
  · isplitl [Hi0]; · iexact Hi0
    isplitl [Hi1]; · iexact Hi1
    isplitl [Ho0]; · iexact Ho0
    isplitl [Ho1]; · iexact Ho1
    isplitl [He0]; · iexact He0
    iexact He1
  isplitl [HxA HxB HaSR_pay1 HaSL_pay1]
  · isplitl [HxA]; · iexact HxA
    isplitl [HxB]; · iexact HxB
    isplitl [HaSR_pay1]; · iexact HaSR_pay1
    iexact HaSL_pay1
  isplitl [Hout]; · iexact Hout
  isplitl [Hin]; · iexists _; iexact Hin
  isplitl [Hob]; · iexists _; iexact Hob
  isplitl [Hed]; · iexists _; iexact Hed
  isplitl [HaRL_pay1]; · iexact HaRL_pay1
  isplitl [HaRR_pay1]; · iexact HaRR_pay1
  iexists _; iexact HO

end Cert.Stencil
end
-- ==== Proof.Values.lean ====
/-
What the kernel leaves in the result array: the stencil of `x`, row by row. The values the run names are read through the
buffer lemmas: the four blocks, the edge buffer through its four conditional stores, the six copies out.
-/
module

public import proofs.«01_k».proof.Proof.Edge
public import proofs.«01_k».proof.Proof.Body

@[expose] public section

noncomputable section

namespace Cert.Stencil

open Cert.KernelIdeal Cert.KernelIdeal.Gen

open Idealize.ShloMosaic Idealize.ShloMosaic.TcCoe Idealize.ShloMosaic.ValueIdx

variable {F : FTy → Type} [FloatOps F]

variable (m : (ℓ : Loc nD τ sig) → Buf (Elt F) ℓ)

/-! ## The four blocks -/

section Blocks
variable (c : Dev nD) (f0 : (cc0_scratch0 : Ref sig .tc).ty.Contents (Elt F))

/-- Block 1, computed from slot 0 of the input buffer; -/
theorem block1 : RowsAt m c (k0_pay3 (bodyRun.sl.r m c f0) (bodyRun.sl.r_1 m c f0) (bodyRun.sl.v54 m c f0)) 1 := by
  refine rowsAt_block m c _ 0 1 (by decide) ?_ _ _ _ _ (fun j => pay_block1 _ _ _ j)
  refine loaded_other m c 1 8 _ _ _ _ _ (by decide) ?_
  exact loaded_fill m c 0 0 _ _ _ _ _ 1 1016 (fun j => rows_of_x m c _ _ j) (by decide) (by omega)
/-- block 0, from slot 1; -/
theorem block0 : RowsAt m c (k0_pay6 (bodyRun.sl.r_2 m c f0) k0_pay5 (bodyRun.sl.v81 m c f0) (bodyRun.sl.v86 m c f0)) 0 := by
  refine rowsAt_block m c _ 1 0 (by decide) ?_ _ _ _ _ (fun j => pay_block0 _ _ _ j)
  refine loaded_other m c 0 0 _ _ _ _ _ (by decide) ?_
  exact loaded_fill m c 1 8 _ _ _ _ _ 0 0 (fun j => rows_of_x m c _ _ j) (by decide) (by omega)
/-- block 2, from slot 0; -/
theorem block2 : RowsAt m c (k0_pay11 (bodyRun.sl.r_3 m c f0) (bodyRun.sl.r_4 m c f0)) 2 := by
  refine rowsAt_block m c _ 0 2 (by decide) ?_ _ _ _ _ (fun j => pay_block2 _ _ _ j)
  refine loaded_other m c 1 0 _ _ _ _ _ (by decide) ?_
  exact loaded_fill m c 0 0 _ _ _ _ _ 2 2040 (fun j => rows_of_x m c _ _ j) (by decide) (by omega)
/-- block 3, from slot 1. -/
theorem block3 : RowsAt m c (k0_pay14 (bodyRun.sl.r_5 m c f0) (bodyRun.sl.r_6 m c f0) (bodyRun.sl.v165 m c f0)) 3 := by
  refine rowsAt_block m c _ 1 3 (by decide) ?_ _ _ _ _ (fun j => pay_block3 _ _ _ j)
  exact loaded_fill m c 1 0 _ _ _ _ _ 3 3064 (fun j => rows_of_x m c _ _ j) (by decide) (by omega)

/-- The first two rows of `x`, loaded from the input buffer; its last two. -/
theorem first_two (j : S1x2x1024.Idx) : bodyRun.sl.v99 m c f0 j = xAt m c (j 1).val (j 2).val := by
  have hj : (j 1).val < 2 := (j 1).isLt
  refine (loaded_load m c 1 8 _ _ (b := 0) ?_ j (by omega) (by omega)).trans ?_
  · refine loaded_other m c 0 0 _ _ _ _ _ (by decide) ?_
    exact loaded_fill m c 1 8 _ _ _ _ _ 0 0 (fun j => rows_of_x m c _ _ j) (by decide) (by omega)
  · congr 1; omega
theorem last_two (j : S1x2x1024.Idx) : bodyRun.sl.v178 m c f0 j = xAt m c (4094 + (j 1).val) (j 2).val := by
  have hj : (j 1).val < 2 := (j 1).isLt
  refine (loaded_load m c 1 1030 _ _ (b := 3) ?_ j (by omega) (by omega)).trans ?_
  · exact loaded_fill m c 1 0 _ _ _ _ _ 3 3064 (fun j => rows_of_x m c _ _ j) (by decide) (by omega)
  · congr 1; omega

end Blocks

/-! ## The edge buffer -/

section Edges
variable (c : Dev nD) (f0 : (cc0_scratch0 : Ref sig .tc).ty.Contents (Elt F)) (f3 : EdgeBuf (F := F))

/-- The conditions of the four conditional stores. -/
theorem first_copies : ∀ c : Dev nD, bodyRun.sl.v197 c = 1#1 ↔ c.val = 0 := by decide
theorem first_made : ∀ c : Dev nD, bodyRun.sl.v200 c = 1#1 ↔ c.val ≠ 0 := by decide
theorem last_copies : ∀ c : Dev nD, bodyRun.sl.v210 c = 1#1 ↔ c.val = 7 := by decide
theorem last_made : ∀ c : Dev nD, bodyRun.sl.v213 c = 1#1 ↔ c.val ≠ 7 := by decide

/-- The blocks' stores, over any earlier contents. -/
theorem kept_stores (f : EdgeBuf (F := F)) : Kept m c ((edgeM : Memref sig .tc .vmem S3x8x1024 .f32).view.writes (Elt F) f (bodyRun.sl.Hed_4 m c f0)) := by
  refine kept_blocks m c f _ _ _ _ _ _ _ _ (fun j h => ?_) (fun j h => ?_) (fun j => ?_) (fun j => ?_)
  · have hj : (j 1).val < 8 := (j 1).isLt
    refine (pay_copy8 _ j).trans ((out_load m c 0 _ (block0 m c f0) _ _ _ j (by omega) (by omega)).trans ?_)
    congr 1; omega
  · have hj : (j 1).val < 8 := (j 1).isLt
    exact (pay_copy8' _ j).trans (out_load m c 3 _ (block3 m c f0) _ _ _ j (by omega) (by omega))
  · exact (pay_copy2 _ j).trans (first_two m c f0 j)
  · exact (pay_copy2' _ j).trans (last_two m c f0 j)

/-- The edge buffer after the first conditional store; -/
def after1 : EdgeBuf (F := F) :=
  if hc : bodyRun.sl.v197 c = 1#1 then putRow f3 0 0 inb_S3x8x1024_S1x1x1024_0_0_0 (k0_pay17 (bodyRun.sl.v254 m c f0)) (bodyRun.sl.Hed_4 m c f0)
  else (edgeM : Memref sig .tc .vmem S3x8x1024 .f32).view.writes (Elt F) f3 (bodyRun.sl.Hed_4 m c f0)
/-- after the second; -/
def after2 : EdgeBuf (F := F) :=
  if hc : bodyRun.sl.v200 c = 1#1 then putRow (after1 m c f0 f3) 0 0 inb_S3x8x1024_S1x1x1024_0_0_0
    (k0_pay18 ((haloM : Memref sig .tc .vmem S2x8x1024 .f32).view.readAt (Elt F) (Rect.unit (s := S2x8x1024) ![0, 7, 0] S1x1x1024.size inb_S2x8x1024_S1x1x1024_0_7_0).toLoadRect (halo m c))
      (bodyRun.sl.v258 m c f0 f3) (bodyRun.sl.v263 m c f0 f3)) []
  else after1 m c f0 f3
/-- after the third; -/
def after3 : EdgeBuf (F := F) :=
  if hc : bodyRun.sl.v210 c = 1#1 then putRow (after2 m c f0 f3) 1 7 inb_S3x8x1024_S1x1x1024_1_7_0 (k0_pay19 (bodyRun.sl.v254_1 m c f0 f3)) []
  else after2 m c f0 f3
/-- after the fourth. -/
def after4 : EdgeBuf (F := F) :=
  if hc : bodyRun.sl.v213 c = 1#1 then putRow (after3 m c f0 f3) 1 7 inb_S3x8x1024_S1x1x1024_1_7_0
    (k0_pay20 (bodyRun.sl.v254_2 m c f0 f3) (bodyRun.sl.v258_1 m c f0 f3)
      ((haloM : Memref sig .tc .vmem S2x8x1024 .f32).view.readAt (Elt F) (Rect.unit (s := S2x8x1024) ![1, 0, 0] S1x1x1024.size inb_S2x8x1024_S1x1x1024_1_0_0).toLoadRect (halo m c))) []
  else after3 m c f0 f3

theorem after1_holds : Kept m c (after1 m c f0 f3) ∧ (c.val = 0 → Top m c (after1 m c f0 f3)) := by
  unfold after1
  exact stage1 m c _ f3 _ _ _ (first_copies c) (kept_stores m c f0 f3) fun j =>
    (pay_copy1 _ j).trans (kept_cov m c _ 0 (by decide) _ (kept_stores m c f0 _) j)
theorem after2_holds : Kept m c (after2 m c f0 f3) ∧ Top m c (after2 m c f0 f3) := by
  unfold after2
  exact stage2 m c _ (after1 m c f0 f3) _ _ (first_made c) (after1_holds m c f0 f3).1 (after1_holds m c f0 f3).2 fun j => by
    refine (pay_first _ _ _ j).trans ?_
    rw [halo_load_first m c _ j]
    congr 1
    · exact kept_load m c _ 0 (by decide) _ (after1_holds m c f0 f3).1 j
    · exact kept_load m c _ 1 (by decide) _ (after1_holds m c f0 f3).1 j
theorem after3_holds : Kept m c (after3 m c f0 f3) ∧ Top m c (after3 m c f0 f3) ∧ (c.val = 7 → Bot m c (after3 m c f0 f3)) := by
  unfold after3
  exact stage3 m c _ (after2 m c f0 f3) _ _ (last_copies c) (after2_holds m c f0 f3).1 (after2_holds m c f0 f3).2 fun j =>
    (pay_copy1' _ j).trans (kept_load m c _ 3 (by decide) _ (after2_holds m c f0 f3).1 j)
theorem after4_holds : Kept m c (after4 m c f0 f3) ∧ Top m c (after4 m c f0 f3) ∧ Bot m c (after4 m c f0 f3) := by
  unfold after4
  exact stage4 m c _ (after3 m c f0 f3) _ _ (last_made c) (after3_holds m c f0 f3).1 (after3_holds m c f0 f3).2.1 (after3_holds m c f0 f3).2.2 fun j => by
    refine (pay_last _ _ _ j).trans ?_
    rw [halo_load_second m c _ j]
    congr 1
    · exact kept_load m c _ 2 (by decide) _ (after3_holds m c f0 f3).1 j
    · exact kept_load m c _ 3 (by decide) _ (after3_holds m c f0 f3).1 j

end Edges

/-! ## The result -/

section Result
variable (c : Dev nD) (f0 : (cc0_scratch0 : Ref sig .tc).ty.Contents (Elt F)) (f1 : (cc0_scratch1 : Ref sig .tc).ty.Contents (Elt F)) (f3 : EdgeBuf (F := F))

theorem part1 : Part m c 1024 (bodyRun.sl.dma5 m c f0 f1) := fun j => by
  have hj : (j 0).val < 1024 := (j 0).isLt
  exact out_block m c 1 _ (block1 m c f0) _ _ _ _ f1 _ j (by omega) (by omega)
theorem part0 : Part m c 8 (bodyRun.sl.dma16 m c f0 f1) := fun j => by
  have hj : (j 0).val < 1016 := (j 0).isLt
  refine (out_block m c 0 _ (block0 m c f0) _ _ _ _ f1 _ j (by omega) (by omega)).trans ?_
  congr 1
theorem part2 : Part m c 2048 (bodyRun.sl.dma21 m c f0 f1) := fun j => by
  have hj : (j 0).val < 1024 := (j 0).isLt
  exact out_block m c 2 _ (block2 m c f0) _ _ _ _ f1 _ j (by omega) (by omega)
theorem part3 : Part m c 3072 (bodyRun.sl.dma32 m c f0 f1) := fun j => by
  have hj : (j 0).val < 1016 := (j 0).isLt
  exact out_block m c 3 _ (block3 m c f0) _ _ _ _ f1 _ j (by omega) (by omega)
theorem part_first : Part m c 0 (bodyRun.sl.dma48 m c f0 f3) :=
  edge_first m c (after4 m c f0 f3) _ _ _ (after4_holds m c f0 f3).1 (after4_holds m c f0 f3).2.1
theorem part_last : Part m c 4088 (bodyRun.sl.dma48_1 m c f0 f3) :=
  edge_last m c (after4 m c f0 f3) _ _ _ (after4_holds m c f0 f3).1 (after4_holds m c f0 f3).2.2

omit [FloatOps F] in
theorem read_result (f g : (main_v1 : Ref sig .tc).ty.Contents (Elt F))
    (h : ∀ i, (oM : Memref sig .tc .hbm S4096x1024 .f32).view.read (Elt F) f i = g i) : f = g := funext h

/-- The kernel leaves the stencil of `x` in the result array. -/
theorem result (K : Dev nD × Fin 5 → ℕ) (fo : (main_v1 : Ref sig .tc).ty.Contents (Elt F)) (W : Waits sig Unit) :
    (bodyRun m K c f0 f1 f3 fo W).1 = outVal m c := by
  refine read_result _ _ fun i => ?_
  unfold bodyRun
  dsimp only
  exact result_pieces m c fo _ _ _ _ _ _ (part_last m c f0 f3) (part_first m c f0 f3) (part3 m c f0 f1) (part2 m c f0 f1) (part0 m c f0 f1) (part1 m c f0 f1) _ _ _ _ _ _ i

end Result

end Cert.Stencil

end
-- ==== Proof.Ring.lean ====
/-
The ring's ghost state at launch: the five cells of every device set up under one update, their tokens dealt to the devices
that pay them, and the credit each device starts with.
-/
module

public import proofs.«01_k».proof.Proof.Body

@[expose] public section

noncomputable section

namespace Cert.Stencil

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

instance invs_persistent (K : Dev nD × Fin 5 → ℕ) (c : Dev nD) : BI.Persistent (invs m K c) := by unfold invs; infer_instance

/-! ## What a device starts from -/

/-- Its positions, at the start of its own five cells; -/
def places (c : Dev nD) : sProp 𝕄 :=
  iprop(atPos ER (barCell c) 0 ∅ 0 ∗ atPos ER (sendRCell c) 0 ∅ 0 ∗ atPos ER (sendLCell c) 0 ∅ 0 ∗ atPos ER (recvLCell c) 0 ∅ 0 ∗ atPos ER (recvRCell c) 0 ∅ 0)
/-- that the cells it pays, and its own transfer cells, have been reached; -/
def marks (c : Dev nD) : sProp 𝕄 :=
  iprop(reached ER (barCell (nxt c)) 0 ∗ reached ER (barCell (prv c)) 0 ∗ reached ER (recvLCell (nxt c)) 0 ∗ reached ER (recvRCell (prv c)) 0
    ∗ reached ER (sendRCell c) 0 ∗ reached ER (sendLCell c) 0 ∗ reached ER (recvLCell c) 0 ∗ reached ER (recvRCell c) 0)
/-- the tokens of the duties it pays; -/
def payToks (c : Dev nD) : sProp 𝕄 :=
  iprop(dutyTok ER (barCell (prv c)) 0 true ∗ dutyTok ER (barCell (nxt c)) 0 false
    ∗ dutyTok ER (recvLCell (nxt c)) 0 false ∗ dutyTok ER (recvRCell (prv c)) 0 false ∗ dutyTok ER (sendRCell c) 0 false ∗ dutyTok ER (sendLCell c) 0 false)
/-- the counters of the copies within the device, at zero; -/
def locals (c : Dev nD) : sProp 𝕄 :=
  iprop(semVal ((c : Thread nD τ), .dma in0) 0 ∗ semVal ((c : Thread nD τ), .dma in1) 0 ∗ semVal ((c : Thread nD τ), .dma out0) 0
    ∗ semVal ((c : Thread nD τ), .dma out1) 0 ∗ semVal ((c : Thread nD τ), .dma edge0) 0 ∗ semVal ((c : Thread nD τ), .dma edge1) 0)
/-- the credit for what its neighbours owe it. -/
def credits (c : Dev nD) : sProp 𝕄 :=
  iprop(cred (tallyAt (barCell c) () 2) ∗ cred (tallyAt (recvLCell c) () N) ∗ cred (tallyAt (recvRCell c) () N))

/-- The ghost state of device `c`, the cells' invariants being held under the names `K`. -/
def ghost (K : Dev nD × Fin 5 → ℕ) (c : Dev nD) : sProp 𝕄 := iprop(invs m K c ∗ places c ∗ marks c ∗ payToks c ∗ locals c)

/-! ## The launch element -/

theorem kcell_injective : Function.Injective (kcell : Dev nD × Fin 5 → GSem nD τ sig) := by
  rintro ⟨c, k⟩ ⟨c', k'⟩ h
  have h1 : c = c' := congrArg (fun g : GSem nD τ sig => g.1.1) h
  subst h1
  have h2 : csem k = csem k' := congrArg Prod.snd h
  have : k = k' := by fin_cases k <;> fin_cases k' <;> first | rfl | exact absurd h2 (by decide)
  subst this; rfl
def ringCells : Finset (GSem nD τ sig) := Finset.univ.map ⟨kcell, kcell_injective⟩

/-- The duty tokens of a device's own cells: its barrier's two, and one of each transfer cell. -/
abbrev tokOf (cj : Dev nD × Fin 6) : GSem nD τ sig × ℕ × Bool := match cj.2 with
  | 0 => (barCell cj.1, 0, true) | 1 => (barCell cj.1, 0, false) | 2 => (recvLCell cj.1, 0, false) | 3 => (recvRCell cj.1, 0, false)
  | 4 => (sendRCell cj.1, 0, false) | 5 => (sendLCell cj.1, 0, false)
/-- Which cell and which duty a token is for. -/
abbrev tokKind : Fin 6 → SemLoc sig × Bool := fun
  | 0 => (.reg barS, true) | 1 => (.reg barS, false) | 2 => (.dma recvL, false) | 3 => (.dma recvR, false)
  | 4 => (.dma sendR, false) | 5 => (.dma sendL, false)
theorem tokOf_kind (cj : Dev nD × Fin 6) : tokOf cj = (((cj.1 : Thread nD τ), (tokKind cj.2).1), 0, (tokKind cj.2).2) := by
  obtain ⟨c, j⟩ := cj; fin_cases j <;> rfl
theorem tokKind_injective : Function.Injective tokKind := by decide
theorem tokOf_injective : Function.Injective (tokOf : Dev nD × Fin 6 → GSem nD τ sig × ℕ × Bool) := by
  rintro ⟨c, j⟩ ⟨c', j'⟩ h
  rw [tokOf_kind, tokOf_kind] at h
  have h1 : c = c' := congrArg (fun x : GSem nD τ sig × ℕ × Bool => x.1.1.1) h
  have h2 : tokKind j = tokKind j' := congrArg (fun x : GSem nD τ sig × ℕ × Bool => (x.1.2, x.2.2)) h
  rw [h1, tokKind_injective h2]
def ringToks : Finset (GSem nD τ sig × ℕ × Bool) := Finset.univ.map ⟨tokOf, tokOf_injective⟩

def u₀ : UU :=
  (initOf (Pipeline.cells cfgs cellOf_inj) (Pipeline.launchToks cfgs cellOf_inj), (initOf ringCells ringToks, 1))

omit [FloatOps F] in
/-- The launch element is the pipeline's and the ring's. -/
theorem u₀_split : (ownU u₀ : sProp 𝕄) ⊢
    iprop(BI.own (EP (initOf (Pipeline.cells cfgs cellOf_inj) (Pipeline.launchToks cfgs cellOf_inj))) ∗ BI.own (ER (initOf ringCells ringToks))) := by
  unfold u₀ ER
  iintro H
  ihave H' := (ownU_pair _ _) $$ H
  icases H' with ⟨HP, HR⟩
  ihave HR' := (own_pair_emb _ _ _) $$ HR
  icases HR' with ⟨HR, -⟩
  isplitl [HP]; · iexact HP
  iexact HR

/-- The duty tokens of device `c`'s own cells. -/
def toks (c : Dev nD) : sProp 𝕄 :=
  iprop(dutyTok ER (barCell c) 0 true ∗ dutyTok ER (barCell c) 0 false
    ∗ dutyTok ER (recvLCell c) 0 false ∗ dutyTok ER (recvRCell c) 0 false ∗ dutyTok ER (sendRCell c) 0 false ∗ dutyTok ER (sendLCell c) 0 false)

/-- What the launch element gives device `c`: the state of its cells, its positions and marks there, its cells' tokens. -/
def G (c : Dev nD) : sProp 𝕄 :=
  iprop((bigSep Finset.univ fun k : Fin 5 => roundState ER (ringRd m) (kcell (c, k)) 0)
    ∗ (bigSep Finset.univ fun k : Fin 5 => iprop(atPos ER (kcell (c, k)) 0 ∅ 0 ∗ reached ER (kcell (c, k)) 0)) ∗ toks c)
/-- What every device has once all cells are set up. -/
def G' (c : Dev nD) : sProp 𝕄 := iprop(∃ K, ghost m K c)

omit [FloatOps F] in
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

omit [FloatOps F] in
theorem fund_ring : BI.own (ER (initOf ringCells ringToks)) ⊢ (|==> bigSep Finset.univ (G m) : sProp 𝕄) := by
  have hC (Φ : GSem nD τ sig → sProp 𝕄) : bigSep ringCells Φ = bigSep Finset.univ fun c : Dev nD => bigSep Finset.univ fun k : Fin 5 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin6]; rfl
  iintro H
  imod (Rounds.fund ER (ringRd m) ringCells ringToks) $$ H with ⟨Hst, Hr, Hat, Htok⟩
  imodintro
  ihave Hst' := (Entails.of_eq (hC fun g => roundState ER (ringRd m) g 0)) $$ Hst
  ihave Hat' := (Entails.of_eq (hC fun g => atPos ER g 0 ∅ 0)) $$ Hat
  ihave Hr' := (Entails.of_eq (hC fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

/-! ## The counters -/

omit [FloatOps F] in
/-- The kernel's own ten counters: the four of the ring's transfers and the six of the copies within the device; -/
theorem ownSems0_eq (c : Dev nD) : (Pipeline.ownSems0 (Ix := Unit) (Name := ℕ) (U := UU) (Lvl := ℕ) (Val := Elt F) (τ := τ) osem c : sProp 𝕄)
    = iprop(semVal (sendRCell c) 0 ∗ semVal (sendLCell c) 0 ∗ semVal (recvLCell c) 0 ∗ semVal (recvRCell c) 0 ∗ locals c) := by
  rw [Pipeline.ownSems0_eq_of_list c osem [0, 1, 2, 3, 4, 5, 6, 7, 8, 9] (by decide) (by decide)]; rfl
omit [FloatOps F] in
/-- the barrier's is the one that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 5 => semVal (kcell (c, k)) 0) ∗ locals c) : sProp 𝕄) := by
  rw [ownSems0_eq, unscopedSems0_eq, bigSep_fin5]
  iintro ⟨⟨HsR, HsL, HrL, HrR, Hloc⟩, HB⟩
  isplitr [Hloc]
  · isplitl [HB]; · iexact HB
    isplitl [HsR]; · iexact HsR
    isplitl [HsL]; · iexact HsL
    isplitl [HrL]; · iexact HrL
    iexact HrR
  iexact Hloc

/-! ## Setting the cells up -/

/-- Device `c`'s part once its own cells' invariants are made. -/
def made (c : Dev nD) : sProp 𝕄 :=
  iprop((bigSep Finset.univ fun k => iprop(∃ κ : ℕ, cellInv ER (ringRd m) κ (kcell (c, k))))
    ∗ (bigSep Finset.univ fun k => iprop(atPos ER (kcell (c, k)) 0 ∅ 0 ∗ reached ER (kcell (c, k)) 0)) ∗ toks c ∗ locals c)

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> made m c := by
  unfold G made
  iintro ⟨Hos, Hus, Hst, Hat, Htok⟩
  ihave Hv := (sems0_eq (F := F) c) $$ [Hos Hus]
  · isplitl [Hos]; · iexact Hos
    iexact Hus
  icases Hv with ⟨Hv, Hloc⟩
  imod (show iprop((bigSep Finset.univ fun k : Fin 5 => semVal (kcell (c, k)) 0) ∗ bigSep Finset.univ fun k : Fin 5 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  isplitl [Htok]; · iexact Htok
  iexact Hloc

/-- What all devices share: every cell's invariant, and that every cell has been reached. -/
def records (K : Dev nD × Fin 5 → ℕ) : sProp 𝕄 :=
  iprop((bigSep Finset.univ fun ck : Dev nD × Fin 5 => cellInv ER (ringRd m) (K ck) (kcell ck))
    ∗ bigSep Finset.univ fun ck : Dev nD × Fin 5 => reached ER (kcell ck) 0)

instance records_persistent (K : Dev nD × Fin 5 → ℕ) : BI.Persistent (records m K) := by unfold records; infer_instance

omit [FloatOps F] in
theorem inv_at (K : Dev nD × Fin 5 → ℕ) (ck : Dev nD × Fin 5) :
    (bigSep Finset.univ fun ck : Dev nD × Fin 5 => (cellInv ER (ringRd m) (K ck) (kcell ck) : sProp 𝕄)) ⊢ cellInv ER (ringRd m) (K ck) (kcell ck) :=
  bigSep_elim (Finset.mem_univ ck)
omit [FloatOps F] in
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

/-- What device `c` alone has. -/
def linear (c : Dev nD) : sProp 𝕄 := iprop(places c ∗ payToks c ∗ locals c)

omit [FloatOps F] in
theorem ghost_intro (K : Dev nD × Fin 5 → ℕ) (c : Dev nD) : iprop(records m K ∗ linear c) ⊢ G' m c := by
  unfold records linear G' ghost invs marks
  iintro ⟨⟨#HI, #HR⟩, Hat, Htok, Hloc⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (nxt c, 0)); iexact HI
    isplitr; · iapply (inv_at m K (prv c, 0)); iexact HI
    isplitr; · iapply (inv_at m K (nxt c, 3)); iexact HI
    iapply (inv_at m K (prv c, 4)); iexact HI
  isplitl [Hat]; · iexact Hat
  isplitr
  · isplitr; · iapply (reached_at (F := F) (nxt c, 0)); iexact HR
    isplitr; · iapply (reached_at (F := F) (prv c, 0)); iexact HR
    isplitr; · iapply (reached_at (F := F) (nxt c, 3)); iexact HR
    isplitr; · iapply (reached_at (F := F) (prv c, 4)); iexact HR
    isplitr; · iapply (reached_at (F := F) (c, 1)); iexact HR
    isplitr; · iapply (reached_at (F := F) (c, 2)); iexact HR
    isplitr; · iapply (reached_at (F := F) (c, 3)); iexact HR
    iapply (reached_at (F := F) (c, 4)); iexact HR
  isplitl [Htok]; · iexact Htok
  iexact Hloc

omit [FloatOps F] in
/-- Every token goes to the device that pays it: a neighbour's barrier and receive tokens travel one device, the send tokens
stay. -/
theorem toks_around : (bigSep Finset.univ fun c : Dev nD => (toks c : sProp 𝕄)) ⊢ bigSep Finset.univ fun c : Dev nD => payToks c := by
  unfold toks payToks
  simp only [bigSep_sep']
  rw [bigSep_univ_equiv ring.symm (fun c : Dev nD => (dutyTok ER (barCell c) 0 true : sProp 𝕄)),
    bigSep_univ_equiv ring (fun c : Dev nD => (dutyTok ER (barCell c) 0 false : sProp 𝕄)),
    bigSep_univ_equiv ring (fun c : Dev nD => (dutyTok ER (recvLCell c) 0 false : sProp 𝕄)),
    bigSep_univ_equiv ring.symm (fun c : Dev nD => (dutyTok ER (recvRCell c) 0 false : sProp 𝕄))]
  exact Entails.of_eq rfl

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- A device's positions, listed. -/
theorem places_eq (c : Dev nD) : (bigSep Finset.univ fun k : Fin 5 => (atPos ER (kcell (c, k)) 0 ∅ 0 : sProp 𝕄)) = places c := by
  unfold places; rw [bigSep_fin5]

omit [FloatOps F] in
theorem regroup : (bigSep Finset.univ fun c : Dev nD => made m c) ⊢ bigSep Finset.univ (G' m) := by
  unfold made
  rw [bigSep_sep', bigSep_sep', bigSep_sep', ← bigSep_univ_prod (fun ck : Dev nD × Fin 5 => iprop(∃ κ : ℕ, cellInv ER (ringRd m) κ (kcell ck))),
    bigSep_congr (s := Finset.univ) (fun (c : Dev nD) _ => (bigSep_sep' Finset.univ (fun k : Fin 5 => (atPos ER (kcell (c, k)) 0 ∅ 0 : sProp 𝕄)) (fun k => reached ER (kcell (c, k)) 0)).trans
      (congrArg (fun P => iprop(P ∗ _)) (places_eq c))),
    bigSep_sep', ← bigSep_univ_prod (fun ck : Dev nD × Fin 5 => (reached ER (kcell ck) 0 : sProp 𝕄))]
  iintro ⟨HI, ⟨Hat, #HR⟩, Htok, Hloc⟩
  ihave HK := (BI.bigSep_exists_pi Finset.univ (fun (ck : Dev nD × Fin 5) (κ : ℕ) => (cellInv ER (ringRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  unfold linear
  rw [bigSep_sep', bigSep_sep']
  isplitl [Hat]; · iexact Hat
  isplitl [Htk]; · iexact Htk
  iexact Hloc

omit [FloatOps F] in
/-- All devices' cells, set up under one update. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

theorem cell_iff {a b : Dev nD} {s t : SemLoc sig} : Iff ((((a : Thread nD τ), s) : GSem nD τ sig) = ((b : Thread nD τ), t)) (a = b ∧ s = t) :=
  ⟨fun h => ⟨congrArg (fun g : GSem nD τ sig => g.1.1) h, congrArg Prod.snd h⟩, fun h => by rw [h.1, h.2]⟩
theorem eq_nxt {c d : Dev nD} : Iff (c = nxt d) (d = prv c) := ⟨fun h => by rw [h, prv_nxt], fun h => by rw [h, nxt_prv]⟩
theorem eq_prv {c d : Dev nD} : Iff (c = prv d) (d = nxt c) := ⟨fun h => by rw [h, nxt_prv], fun h => by rw [h, prv_nxt]⟩

/-- What device `d` owes a cell, summand by summand. -/
theorem O₀_at (d : Dev nD) (g : GSem nD τ sig) : O₀ d g () = (if g = recvRCell (prv d) then N else 0) + (if g = recvLCell (nxt d) then N else 0)
    + (if g = barCell (nxt d) then 1 else 0) + (if g = barCell (prv d) then 1 else 0) := by
  unfold O₀ Osig Ocopy
  rw [Pi.add_apply, Finsupp.add_apply, Pi.add_apply, Finsupp.add_apply, Pi.add_apply, Finsupp.add_apply, tallyAt_apply, tallyAt_apply, tallyAt_apply, tallyAt_apply]
  simp only [and_true]

/-- A barrier cell is owed a unit by either neighbour; -/
theorem owed_bar (d c : Dev nD) : O₀ d (barCell c) () = (if d = prv c then 1 else 0) + (if d = nxt c then 1 else 0) := by
  rw [O₀_at, if_neg (fun h => dma_ne_bar _ (cell_iff.1 h).2.symm), if_neg (fun h => dma_ne_bar _ (cell_iff.1 h).2.symm), Nat.zero_add]
  simp only [cell_iff, eq_nxt (c := c) (d := d), eq_prv (c := c) (d := d), and_true]
/-- a device's first receive cell a copy by the left neighbour, -/
theorem owed_recvL (d c : Dev nD) : O₀ d (recvLCell c) () = if d = prv c then N else 0 := by
  rw [O₀_at, if_neg (fun h => recvR_ne_recvL (cell_iff.1 h).2.symm), if_neg (c := recvLCell c = barCell (nxt d)) (fun h => dma_ne_bar _ (cell_iff.1 h).2),
    if_neg (c := recvLCell c = barCell (prv d)) (fun h => dma_ne_bar _ (cell_iff.1 h).2), Nat.add_zero, Nat.zero_add]
  simp only [cell_iff, eq_nxt, and_true]
/-- and its second one by the right. -/
theorem owed_recvR (d c : Dev nD) : O₀ d (recvRCell c) () = if d = nxt c then N else 0 := by
  rw [O₀_at, if_neg (c := recvRCell c = recvLCell (nxt d)) (fun h => recvR_ne_recvL (cell_iff.1 h).2), if_neg (c := recvRCell c = barCell (nxt d)) (fun h => dma_ne_bar _ (cell_iff.1 h).2),
    if_neg (c := recvRCell c = barCell (prv d)) (fun h => dma_ne_bar _ (cell_iff.1 h).2), Nat.add_zero]
  simp only [cell_iff, eq_prv, and_true]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]
theorem launch_recvL (c : Dev nD) :
    tallyOn (recvLCell c) (launchCredit (Pipeline.owing O₀) 0 (recvLCell c)) = (tallyAt (recvLCell c) () N : CellTallies nD τ sig Unit) := by
  unfold tallyAt; refine congrArg _ (Finsupp.ext fun u => ?_); cases u
  rw [Pipeline.launchCredit_owing, Finsupp.single_eq_same, Finset.sum_congr rfl fun d _ => owed_recvL d c, Finset.sum_ite_eq' Finset.univ (prv c) fun _ => N,
    if_pos (Finset.mem_univ _)]
theorem launch_recvR (c : Dev nD) :
    tallyOn (recvRCell c) (launchCredit (Pipeline.owing O₀) 0 (recvRCell c)) = (tallyAt (recvRCell c) () N : CellTallies nD τ sig Unit) := by
  unfold tallyAt; refine congrArg _ (Finsupp.ext fun u => ?_); cases u
  rw [Pipeline.launchCredit_owing, Finsupp.single_eq_same, Finset.sum_congr rfl fun d _ => owed_recvR d c, Finset.sum_ite_eq' Finset.univ (nxt c) fun _ => N,
    if_pos (Finset.mem_univ _)]

omit [FloatOps F] in
/-- A device's launch credit covers both units of its barrier and a copy on either receive cell. -/
theorem creds (c : Dev nD) : (Pipeline.launchCred O₀ c : sProp 𝕄) ⊢ credits c := by
  unfold Pipeline.launchCred credits
  rw [bigSep_univ_at _ (SemLoc.reg barS), launch_bar]
  refine sep_mono_right ?_
  rw [bigSep_erase (i := SemLoc.dma recvL) (Finset.mem_erase.mpr ⟨dma_ne_bar _, Finset.mem_univ _⟩), launch_recvL]
  refine sep_mono_right ?_
  rw [← launch_recvR]
  exact bigSep_elim (Finset.mem_erase.mpr ⟨recvR_ne_recvL, Finset.mem_erase.mpr ⟨dma_ne_bar _, Finset.mem_univ _⟩⟩)

end Cert.Stencil

end
-- ==== Proof.Shares.lean ====
/-
The array `x` dealt to its four readers: the copies into either input slot read all of it, the two copies to the neighbours
eight rows each. What those two do not read stays aside, and the whole comes back together at the end.
-/
module

public import proofs.«01_k».proof.Proof.Body

@[expose] public section

noncomputable section

namespace Cert.Stencil

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The rows of `x` the copies to the neighbours do not read, at the shares of those copies. -/
def asidePts (c : Dev nD) : sProp 𝕄 :=
  iprop((xM.view.loc (c : Thread nD τ) ↦[Finset.univ \ (lastRows : Memref sig .tc .hbm S8x1024 .f32).view.set]{qR} X m c)
    ∗ (xM.view.loc (c : Thread nD τ) ↦[Finset.univ \ (firstRows : Memref sig .tc .hbm S8x1024 .f32).view.set]{qL} X m c))

/-- `x` as its readers hold it. -/
def readersPts (c : Dev nD) : sProp 𝕄 :=
  iprop((xM.view.loc (c : Thread nD τ) ↦{qIn0} X m c) ∗ (xM.view.loc (c : Thread nD τ) ↦{qIn1} X m c) ∗ lastPts m c ∗ firstPts m c)

/-- All of `x`, held by one. -/
abbrev xPts (c : Dev nD) : sProp 𝕄 := (xM.view.loc (c : Thread nD τ)) ↦{fullShare} X m c

omit [FloatOps F] in
/-- The whole share of `x` is its four quarters. -/
theorem quarters (c : Dev nD) : (xPts m c : sProp 𝕄) ⊣⊢
    iprop(((xM.view.loc (c : Thread nD τ) ↦{qIn0} X m c) ∗ (xM.view.loc (c : Thread nD τ) ↦{qIn1} X m c))
      ∗ (xM.view.loc (c : Thread nD τ) ↦{qR} X m c) ∗ (xM.view.loc (c : Thread nD τ) ↦{qL} X m c)) := by
  have h := pointsTo_share (nD := nD) (τ := τ) (sig := sig) (Ix := Unit) (Val := Elt F) (Name := ℕ) (U := UU) (Lvl := ℕ)
    (ℓ := xM.view.loc (c : Thread nD τ)) (I := Finset.univ) (f := X m c) (PosShare.mem_left_op_right fullShare)
  have hl := pointsTo_share (nD := nD) (τ := τ) (sig := sig) (Ix := Unit) (Val := Elt F) (Name := ℕ) (U := UU) (Lvl := ℕ)
    (ℓ := xM.view.loc (c : Thread nD τ)) (I := Finset.univ) (f := X m c) (PosShare.mem_left_op_right fullShare.left)
  have hr := pointsTo_share (nD := nD) (τ := τ) (sig := sig) (Ix := Unit) (Val := Elt F) (Name := ℕ) (U := UU) (Lvl := ℕ)
    (ℓ := xM.view.loc (c : Thread nD τ)) (I := Finset.univ) (f := X m c) (PosShare.mem_left_op_right fullShare.right)
  exact ⟨h.1.trans (BIClass.sep_mono hl.1 hr.1), (BIClass.sep_mono hl.2 hr.2).trans h.2⟩

omit [FloatOps F] in
/-- One quarter, cut at the rows sent to the right; -/
theorem cut_last (c : Dev nD) : (xM.view.loc (c : Thread nD τ) ↦{qR} X m c : sProp 𝕄) ⊣⊢
    iprop(lastPts m c ∗ (xM.view.loc (c : Thread nD τ) ↦[Finset.univ \ (lastRows : Memref sig .tc .hbm S8x1024 .f32).view.set]{qR} X m c)) := by
  unfold lastPts
  exact pointsTo_split_subset (Finset.subset_univ _)
omit [FloatOps F] in
/-- another, at the rows sent to the left. -/
theorem cut_first (c : Dev nD) : (xM.view.loc (c : Thread nD τ) ↦{qL} X m c : sProp 𝕄) ⊣⊢
    iprop(firstPts m c ∗ (xM.view.loc (c : Thread nD τ) ↦[Finset.univ \ (firstRows : Memref sig .tc .hbm S8x1024 .f32).view.set]{qL} X m c)) := by
  unfold firstPts
  exact pointsTo_split_subset (Finset.subset_univ _)

omit [FloatOps F] in
/-- `x` is dealt to its readers, -/
theorem deal_x (c : Dev nD) : (xPts m c : sProp 𝕄) ⊢ iprop(readersPts m c ∗ asidePts m c) := by
  unfold readersPts asidePts
  iintro H
  ihave H' := (quarters m c).1 $$ H
  icases H' with ⟨⟨HA, HB⟩, HR, HL⟩
  ihave HR' := (cut_last m c).1 $$ HR
  ihave HL' := (cut_first m c).1 $$ HL
  icases HR' with ⟨HR, HRo⟩
  icases HL' with ⟨HL, HLo⟩
  isplitl [HA HB HR HL]
  · isplitl [HA]; · iexact HA
    isplitl [HB]; · iexact HB
    isplitl [HR]; · iexact HR
    iexact HL
  isplitl [HRo]; · iexact HRo
  iexact HLo

omit [FloatOps F] in
/-- and collected from them. -/
theorem collect_x (c : Dev nD) : iprop(readersPts m c ∗ asidePts m c) ⊢ (xPts m c : sProp 𝕄) := by
  unfold readersPts asidePts
  iintro ⟨⟨HA, HB, HR, HL⟩, HRo, HLo⟩
  iapply (quarters m c).2
  isplitl [HA HB]
  · isplitl [HA]; · iexact HA
    iexact HB
  isplitl [HR HRo]
  · iapply (cut_last m c).2
    isplitl [HR]; · iexact HR
    iexact HRo
  iapply (cut_first m c).2
  isplitl [HL]; · iexact HL
  iexact HLo

end Cert.Stencil

end
-- ==== Proof.Launch.lean ====
/-
The launch: the eight devices' kernels run together. Every run ends, with each device's block of `x` as it was, its result
block holding the smoothed rows, and every semaphore counter at zero.
-/
module

public import proofs.«01_k».proof.Proof.Values
public import proofs.«01_k».proof.Proof.Ring
public import proofs.«01_k».proof.Proof.Shares
public import Idealize.ShloMosaic.Lib.Pipeline.CollectiveSegs

@[expose] public section

noncomputable section

namespace Cert.Stencil

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (ρ : Dev nD → PrngReg)

/-- Device `c`'s result array, holding `f`. -/
abbrev oPts (c : Dev nD) (f : (main_v1 : Ref sig .tc).ty.Contents (Elt F)) : sProp 𝕄 := (oM.view.loc (c : Thread nD τ)) ↦{fullShare} f

/-- The four scratch buffers, at some contents. -/
def scratch (c : Dev nD) : sProp 𝕄 :=
  iprop((∃ f, (inM.view.loc (c : Thread nD τ)) ↦{fullShare} f) ∗ (∃ f, (outM.view.loc (c : Thread nD τ)) ↦{fullShare} f)
    ∗ (∃ f, (haloM.view.loc (c : Thread nD τ)) ↦{fullShare} f) ∗ (∃ f, (edgeM.view.loc (c : Thread nD τ)) ↦{fullShare} f))

/-- What device `c` brings into the kernel. -/
def start (c : Dev nD) : sProp 𝕄 := iprop(G' m c ∗ credits c ∗ levAts L lv ∗ xPts m c ∗ oPts c (m ((c : Thread nD τ).loc main_v1)))
/-- Before the kernel: that, and the scratch buffers. -/
def Φ₀ (c : Dev nD) : sProp 𝕄 := iprop(start m c ∗ scratch c)
/-- What it takes out of it: the barrier's counter at zero, `x` as it was, the smoothed rows. -/
def final (c : Dev nD) : sProp 𝕄 := iprop(semVal (barCell c) 0 ∗ xPts m c ∗ oPts c (outVal m c))
/-- The ring's transfer counters at zero. -/
def closed (c : Dev nD) : sProp 𝕄 := iprop(semVal (sendRCell c) 0 ∗ semVal (sendLCell c) 0 ∗ semVal (recvLCell c) 0 ∗ semVal (recvRCell c) 0)
/-- After the kernel: that, the kernel's own counters at zero, and the scratch buffers. -/
def Φ₁ (c : Dev nD) : sProp 𝕄 := iprop(final m c ∗ closed c ∗ locals c ∗ scratch c)

def dats (_ : Fin 1) (c : Dev nD) : Pipeline.Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem no_windows (Φ : Fin cfg0.W → sProp 𝕄) : bigSep Finset.univ Φ = iprop(emp) := by
  rw [show (Finset.univ : Finset (Fin cfg0.W)) = ∅ from rfl, bigSep_empty]; rfl

/-! ## The kernel's run, between what a device brings and what it takes -/

omit [FloatOps F] in
/-- Its own landing places, spelt as what it hands its neighbours. -/
theorem give_left (c : Dev nD) (f) : iprop(landLPts c f ∗ reached ER (recvLCell c) 0) ⊢ (barPayR (prv c) : sProp 𝕄) := by
  unfold barPayR; rw [nxt_prv]
  iintro ⟨H, #Hr⟩
  isplitl [H]; · iexists f; iexact H
  iexact Hr
omit [FloatOps F] in
theorem give_right (c : Dev nD) (f) : iprop(landRPts c f ∗ reached ER (recvRCell c) 0) ⊢ (barPayL (nxt c) : sProp 𝕄) := by
  unfold barPayL; rw [prv_nxt]
  iintro ⟨H, #Hr⟩
  isplitl [H]; · iexists f; iexact H
  iexact Hr

/-- What a device brings, made ready for the run; the rows of `x` it does not read for its neighbours stay aside. -/
theorem ready (c : Dev nD) (W : Waits sig Unit) : iprop(Φ₀ m c ∗ owes (c : Thread nD τ) (O₀ c) W) ⊢
    (iprop(∃ K f0 f1 f3, bodyPre m K c f0 f1 f3 (m ((c : Thread nD τ).loc main_v1)) W ∗ asidePts m c) : sProp 𝕄) := by
  unfold Φ₀ start G' ghost places marks payToks locals credits scratch
  iintro ⟨⟨⟨⟨%K, Hinv, Hat, ⟨#R1, #R2, #R3, #R4, #R5, #R6, #R7, #R8⟩, Htok, Hloc⟩, Hcr, Hlev, Hx, Ho⟩, ⟨%f0, H0⟩, ⟨%f1, H1⟩, ⟨%f2, H2⟩, ⟨%f3, H3⟩⟩, HO⟩
  ihave Hx' := (deal_x m c) $$ Hx
  unfold readersPts
  icases Hx' with ⟨⟨HA, HB, HR, HL⟩, Has⟩
  ihave H2' := (halo_split c f2).1 $$ H2
  icases H2' with ⟨HlL, HlR⟩
  iexists K, f0, f1, f3
  unfold bodyPre
  isplitr [Has]
  · isplitl [Hinv]; · iexact Hinv
    isplitl [Hlev]; · iapply (mayWait_bar c); iexact Hlev
    isplitl [Hat]; · iexact Hat
    isplitr
    · isplitr; · iexact R1
      isplitr; · iexact R2
      isplitr; · iexact R3
      isplitr; · iexact R4
      isplitr; · iexact R5
      isplitr; · iexact R6
      isplitr; · iexact R7
      iexact R8
    isplitl [Htok]; · iexact Htok
    isplitl [Hloc]; · iexact Hloc
    isplitl [Hcr]; · iexact Hcr
    isplitl [HO]; · iexact HO
    isplitl [HA]; · iexact HA
    isplitl [HB]; · iexact HB
    isplitl [HR]; · iexact HR
    isplitl [HL]; · iexact HL
    isplitl [Ho]; · iexact Ho
    isplitl [H0]; · iexact H0
    isplitl [H1]; · iexact H1
    isplitl [HlL]
    · iapply (give_left c f2)
      isplitl [HlL]; · iexact HlL
      iexact R7
    isplitl [HlR]
    · iapply (give_right c f2)
      isplitl [HlR]; · iexact HlR
      iexact R8
    iexact H3
  iexact Has

/-- What the run leaves, with the rows kept aside, is what a device takes. -/
theorem done (c : Dev nD) : iprop(bodyPost m c (outVal m c) ∗ asidePts m c) ⊢ (iprop(Φ₁ m c ∗ ∃ W, owes (c : Thread nD τ) 0 W) : sProp 𝕄) := by
  unfold bodyPost Φ₁ final closed locals scratch
  iintro ⟨⟨⟨HzB, HzSR, HzSL, HzRL, HzRR⟩, Hloc, Hx, Ho, H0, H1, H3, HlL, HlR, HO⟩, Has⟩
  isplitr [HO]
  · isplitl [HzB Hx Ho Has]
    · isplitl [HzB]; · iexact HzB
      isplitl [Hx Has]
      · iapply (collect_x m c)
        unfold readersPts
        isplitl [Hx]; · iexact Hx
        iexact Has
      iexact Ho
    isplitl [HzSR HzSL HzRL HzRR]
    · isplitl [HzSR]; · iexact HzSR
      isplitl [HzSL]; · iexact HzSL
      isplitl [HzRL]; · iexact HzRL
      iexact HzRR
    isplitl [Hloc]; · iexact Hloc
    isplitl [H0]; · iexact H0
    isplitl [H1]; · iexact H1
    isplitl [HlL HlR]
    · iexists (halo m c)
      iapply (halo_split c (halo m c)).2
      isplitl [HlL]; · iexact HlL
      iexact HlR
    iexact H3
  iexact HO

/-- The run, with its result named. -/
theorem run_value (K : Dev nD × Fin 5 → ℕ) (c : Dev nD) (f0 f1 f3 fo) (W : Waits sig Unit) :
    bodyPre m K c f0 f1 f3 fo W ⊢ wp frame (wpE (defs₀ (F := F)) 𝒱₀ c none) Set.univ (bodyAt0 t0_0) fun _ => bodyPost m c (outVal m c) := by
  have h := (bodyRun m K c f0 f1 f3 fo W).2
  rw [result] at h
  exact h

/-- Device `c`'s kernel, from what the device brings to what it takes. -/
theorem run_device (c : Dev nD) (W : Waits sig Unit) : iprop(Φ₀ m c ∗ owes (c : Thread nD τ) (O₀ c) W) ⊢
    wp frame (wpE (defs₀ (F := F)) 𝒱₀ c none) Set.univ (bodyAt0 t0_0) fun _ => iprop(Φ₁ m c ∗ ∃ W, owes (c : Thread nD τ) 0 W) := by
  iintro H
  ihave H' := (ready m c W) $$ H
  icases H' with ⟨%K, %f0, %f1, %f3, Hpre, Has⟩
  iapply (wp_mono frame (wpE (defs₀ (F := F)) 𝒱₀ c none) Set.univ (Q := fun _ => iprop(bodyPost m c (outVal m c) ∗ asidePts m c)) fun _ => done m c)
  iapply (wp_wand_r frame (wpE (defs₀ (F := F)) 𝒱₀ c none) Set.univ)
  isplitl [Hpre]
  · iapply (run_value m K c f0 f1 f3 _ W); iexact Hpre
  iintro %_ Hpost
  isplitl [Hpost]; · iexact Hpost
  iexact Has

/-- The pipeline's obligation on device `c`. -/
theorem body_obligation (c : Dev nD) : Pipeline.BodyObligation (dats (F := F) m 0 c) (defs₀ (F := F)) 𝒱₀ () Set.univ := fun t => by
  rw [fin_N0 t, no_windows, no_windows]
  show iprop(Φ₀ m c ∗ (dats m 0 c).owesAt () (t0_0 : Fin cfg0.N).castSucc ∗ emp) ⊢ wp frame (wpE (defs₀ (F := F)) 𝒱₀ c none) Set.univ (bodyAt0 t0_0)
    (fun _ => iprop(Φ₁ m c ∗ (dats m 0 c).owesAt () (t0_0 : Fin cfg0.N).succ ∗ emp))
  unfold Pipeline.Dat.owesAt Pipeline.owesWithin
  rw [show (dats m 0 c).owed (t0_0 : Fin cfg0.N).castSucc = O₀ c from rfl, show (dats m 0 c).owed (t0_0 : Fin cfg0.N).succ = 0 from rfl]
  iintro ⟨HΦ, ⟨%W, -, HO⟩, -⟩
  iapply (wp_mono frame (wpE (defs₀ (F := F)) 𝒱₀ c none) Set.univ (Q := fun _ => iprop(Φ₁ m c ∗ ∃ W, owes (c : Thread nD τ) 0 W)) fun _ => by
    iintro ⟨HΦ, ⟨%W', HO⟩⟩
    isplitl [HΦ]; · iexact HΦ
    isplitl
    · iexists W'
      isplitr; · ipureintro; exact fun _ _ => Or.inl trivial
      iexact HO
    iempintro)
  iapply (run_device m c W)
  isplitl [HΦ]; · iexact HΦ
  iexact HO

/-! ## The launch's side conditions -/

theorem ownSemFacts : Pipeline.OwnSemFacts cfg0.spec osem := by decide

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho⟩, Hlev, Hcr, -, HG⟩
  ihave Hc := (creds (F := F) c) $$ Hcr
  imodintro
  unfold start
  isplitl
  · isplitl [HG]; · iexact HG
    isplitl [Hc]; · iexact Hc
    isplitl [Hlev]; · iexact Hlev
    isplitl [Hx]; · iexact Hx
    iexact Ho
  iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(final m c ∗ Pipeline.ownSems0 osem c ∗ Pipeline.scopedRest cfg0.spec c) := by
  rw [show (dats m 0 c).Φ (Fin.last cfg0.N) = Φ₁ m c from rfl, scopedRest0_eq, ownSems0_eq]
  unfold Φ₁ closed scratch
  iintro ⟨Hf, ⟨H1, H2, H3, H4⟩, Hloc, Hr⟩
  isplitl [Hf]; · iexact Hf
  isplitl [H1 H2 H3 H4 Hloc]
  · isplitl [H1]; · iexact H1
    isplitl [H2]; · iexact H2
    isplitl [H3]; · iexact H3
    isplitl [H4]; · iexact H4
    iexact Hloc
  iexact Hr

/-- What a device's part of a final memory is. -/
def Final (c : Dev nD) (s : MemSt nD τ sig (Elt F)) : Prop :=
  (s.mem ((c.tc : Thread nD τ).loc main_arg0) = X m c ∧ s.mem ((c.tc : Thread nD τ).loc main_v1) = outVal m c)
    ∧ ∀ sm : SemLoc sig, sm.isScoped .tc = false → s.sem ((c.tc : Thread nD τ), sm) = 0

/-- What a device takes out of the kernel says so. -/
theorem read_final (c : Dev nD) (s' : Phys nD τ sig (Elt F)) : iprop(final m c ∗ iprop(emp) ∗ SI s') ⊢ |={Set.univ}=> (iprop(⌜Final m c s'.mem⌝ ∗ SI s') : sProp 𝕄) := by
  unfold final
  iintro ⟨⟨Hu, Hx, Ho⟩, -, HSI⟩
  icombine HSI Hx gives %hx
  icombine HSI Ho gives %ho
  imod (Pipeline.unscopedSems0_read (X := semVal (barCell c) 0) (c := c) (by rw [unscopedSems0_eq]; exact fupd_intro) s') $$ [Hu HSI] with ⟨%hz, HSI⟩
  · isplitl [Hu]; · iexact Hu
    iexact HSI
  imodintro
  isplitr
  · ipureintro
    exact ⟨⟨Buf.eq_of_forall_mem_univ hx, Buf.eq_of_forall_mem_univ ho⟩, hz⟩
  iexact HSI

/-- What every final state is: each device's `x` unchanged, its result the smoothed rows, all counters zero. -/
def Done (r : PUnit × MemSt nD τ sig (Elt F)) : Prop :=
  (∀ c : Dev nD, r.2.mem ((c.tc : Thread nD τ).loc main_arg0) = m ((c.tc : Thread nD τ).loc main_arg0)
      ∧ r.2.mem ((c.tc : Thread nD τ).loc main_v1) = outVal m c)
    ∧ r.2.sem = fun _ => 0

set_option maxRecDepth 8000 in
/-- From any memory with zero counters, over any float values, every fair run of the eight devices' program ends, in such a
state. -/
theorem run_main : θ_run defs (onTc (τ := τ) (main (F := F))) ⟨m, fun _ => 0, ρ⟩ (Done m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := fun c => Pipeline.cellsWaits_intro cfgs (dats m) () 0 c fun w _ _ => w.elim0)
    (G := G m) (G' := G' m) (u₀ := u₀)
    (hu₀ := by
      iintro Hu
      ihave H := (u₀_split (F := F)) $$ Hu
      icases H with ⟨HP, HX⟩
      imod (fund_ring m) $$ HX with HG
      imodintro
      isplitl [HP]; · iexact HP
      iexact HG)
    (hglob := glob m)
    (hA := fun _ w => w.elim0) (hpf := fun _ k => k.elim0)
    (X := start m) (Y := final m) (Z := fun _ => iprop(emp))
    (hX := start_intro m ρ) (hin := phi0_intro m) (hout := phi1_exit m)
    (QY := Final m) (hY := read_final m)
    (hQ := fun _ h hs => ⟨fun c => (h c).2.2.1, sem_eq_zero hs fun c => (h c).2.2.2⟩)

end Cert.Stencil

end
-- ==== Proof.Reference.lean ====
/-
What the reference computes, row by row, and that the eight devices' results are its blocks.

The reference smooths the whole array at once: its first and last rows are copied, every other row is the stencil of the three
rows around it. A device's block is 4096 of those rows; the row before its first is the last row of the device before, and the
row after its last is the first row of the device after.
-/
module

public import proofs.«01_k».proof.Proof.Block
public import proofs.«01_k».proof.Proof.Gen.ReferenceIdeal.Run
public import Idealize.ShloMosaic.Lib.Layout
public import Idealize.ShloMosaic.Lib.Pipeline.Value

@[expose] public section

noncomputable section

namespace Cert.Stencil

open Idealize.ShloMosaic Idealize.ShloMosaic.TcCoe Idealize.ShloMosaic.ValueIdx Idealize.SL.Sem

variable {F : FTy → Type} [FloatOps F]

/-- The whole array's contents. -/
abbrev Whole (F : FTy → Type) : Type := (⟨2, ![32768, 1024]⟩ : Shape).Idx → F .f32

/-- Row `r`, lane `l` of the whole array. -/
def rowAt (A : Whole F) (r l : ℕ) : F .f32 :=
  A (ix2 (n0 := 32768) (n1 := 1024) ⟨r % 32768, Nat.mod_lt _ (by decide)⟩ ⟨l % 1024, Nat.mod_lt _ (by decide)⟩)

omit [FloatOps F] in
theorem rowAt_eq (A : Whole F) (x : (⟨2, ![32768, 1024]⟩ : Shape).Idx) : A x = rowAt A (x 0).val (x 1).val := by
  unfold rowAt
  refine congrArg A (funext fun a => Fin.ext ?_)
  have h0 : (x 0).val < 32768 := (x 0).isLt
  have h1 : (x 1).val < 1024 := (x 1).isLt
  fin_cases a
  · exact (Nat.mod_eq_of_lt h0).symm
  · exact (Nat.mod_eq_of_lt h1).symm

/-- Row `r`, lane `l` of the smoothed array. -/
def smoothAt (A : Whole F) (r l : ℕ) : F .f32 :=
  if r = 0 then rowAt A 0 l
  else if r = 32767 then rowAt A 32767 l
  else st (rowAt A (r - 1) l) (rowAt A r l) (rowAt A (r + 1) l)

/-- The smoothed array. -/
def smooth (A : Whole F) : Whole F := fun i => smoothAt A (i 0).val (i 1).val

/-! ## The reference's program computes it -/

section Program
open Cert.ReferenceIdeal Cert.ReferenceIdeal.Gen

omit [FloatOps F] in
/-- Some rows of the array, from row `o` on: at row `r` of them, row `o + r` of the array. -/
theorem rows_from (n o : ℕ) (A : Whole F) (h : (⟨2, ![32768, 1024]⟩ : Shape).Slices ![o, 0] ⟨2, ![n, 1024]⟩) (j : (⟨2, ![n, 1024]⟩ : Shape).Idx) :
    extractStridedSlice ⟨2, ![n, 1024]⟩ ![o, 0] A h j = rowAt A (o + (j 0).val) (j 1).val := by
  refine (rowAt_eq A _).trans ?_
  congr 1
  exact Nat.zero_add _

/-- The inner rows: the stencil, its products formed over the whole array at once. -/
theorem inner_rows (A : Whole F) (h0 : S32768x1024.Slices ![0, 0] S32766x1024) (h1 : S32768x1024.Slices ![1, 0] S32766x1024)
    (h2 : S32768x1024.Slices ![2, 0] S32766x1024) (hb : S_.BroadcastsInDim S32766x1024 ![]) (j : S32766x1024.Idx) :
    addf (addf (mulf (broadcastInDim S32766x1024 ![] hb (constant (F := F) S_ .f32 0x3E800000#32)) (extractStridedSlice S32766x1024 ![0, 0] A h0))
        (mulf (broadcastInDim S32766x1024 ![] hb (constant (F := F) S_ .f32 0x3F000000#32)) (extractStridedSlice S32766x1024 ![1, 0] A h1)))
        (mulf (broadcastInDim S32766x1024 ![] hb (constant (F := F) S_ .f32 0x3E800000#32)) (extractStridedSlice S32766x1024 ![2, 0] A h2)) j
      = st (rowAt A (j 0).val (j 1).val) (rowAt A (1 + (j 0).val) (j 1).val) (rowAt A (2 + (j 0).val) (j 1).val) := by
  show st (extractStridedSlice S32766x1024 ![0, 0] A h0 j) (extractStridedSlice S32766x1024 ![1, 0] A h1 j)
    (extractStridedSlice S32766x1024 ![2, 0] A h2 j) = _
  rw [show extractStridedSlice S32766x1024 ![0, 0] A h0 j = _ from rows_from 32766 0 A h0 j,
    show extractStridedSlice S32766x1024 ![1, 0] A h1 j = _ from rows_from 32766 1 A h1 j,
    show extractStridedSlice S32766x1024 ![2, 0] A h2 j = _ from rows_from 32766 2 A h2 j, Nat.zero_add]

/-- A first row, inner rows and a last row laid one after another, read at an index. -/
theorem laid (u : S1x1024.Idx → F .f32) (v : S32766x1024.Idx → F .f32) (w : S1x1024.Idx → F .f32)
    (h : Shape.Concatenates [S1x1024, S32766x1024, S1x1024] S32768x1024 0) (i : S32768x1024.Idx) :
    (∀ j : S1x1024.Idx, (i 0).val = 0 → (j 1).val = (i 1).val → concatenate S32768x1024 0 [⟨S1x1024, u⟩, ⟨S32766x1024, v⟩, ⟨S1x1024, w⟩] h i = u j)
    ∧ (∀ j : S32766x1024.Idx, 1 + (j 0).val = (i 0).val → (j 1).val = (i 1).val → concatenate S32768x1024 0 [⟨S1x1024, u⟩, ⟨S32766x1024, v⟩, ⟨S1x1024, w⟩] h i = v j)
    ∧ (∀ j : S1x1024.Idx, (i 0).val = 32767 → (j 1).val = (i 1).val → concatenate S32768x1024 0 [⟨S1x1024, u⟩, ⟨S32766x1024, v⟩, ⟨S1x1024, w⟩] h i = w j) := by
  have off : ∀ {s : Shape} (e : s.rank = S32768x1024.rank) (j : s.Idx), (j (Fin.cast e.symm 1)).val = (i 1).val →
      ∀ b : Fin s.rank, b.cast e ≠ (0 : Fin S32768x1024.rank) → (j b).val = (i (b.cast e)).val := by
    intro s e j hj b hb
    have hb1 : b.cast e = (1 : Fin S32768x1024.rank) := by
      have : (b.cast e).val < 2 := (b.cast e).isLt
      have : (b.cast e).val ≠ 0 := fun h => hb (Fin.ext h)
      exact Fin.ext (show (b.cast e).val = 1 by omega)
    have hb2 : b = Fin.cast e.symm 1 := by rw [← hb1]; rfl
    rw [hb1, hb2]; exact hj
  refine ⟨fun j h0 h1 => ?_, fun j h0 h1 => ?_, fun j h0 h1 => ?_⟩
  · have hj : (j 0).val < 1 := (j 0).isLt
    exact concatenate_apply_piece (t := S32768x1024) 0 [⟨S1x1024, u⟩, ⟨S32766x1024, v⟩, ⟨S1x1024, w⟩] h i 0 (by simp) S1x1024 u rfl rfl 0 rfl j (off (s := S1x1024) rfl j h1)
      (by show 0 + (j 0).val = (i 0).val; omega)
  · exact concatenate_apply_piece (t := S32768x1024) 0 [⟨S1x1024, u⟩, ⟨S32766x1024, v⟩, ⟨S1x1024, w⟩] h i 1 (by simp) S32766x1024 v rfl rfl 1 rfl j (off (s := S32766x1024) rfl j h1) h0
  · have hj : (j 0).val < 1 := (j 0).isLt
    exact concatenate_apply_piece (t := S32768x1024) 0 [⟨S1x1024, u⟩, ⟨S32766x1024, v⟩, ⟨S1x1024, w⟩] h i 2 (by simp) S1x1024 w rfl rfl 32767 rfl j (off (s := S1x1024) rfl j h1)
      (by show 32767 + (j 0).val = (i 0).val; omega)

set_option backward.proofsInPublic true in
/-- The array that reads as the first row, the inner rows' stencil and the last row is the smoothed array. -/
theorem laid_smooth (A : Whole F) (u : S1x1024.Idx → F .f32) (v : S32766x1024.Idx → F .f32) (w : S1x1024.Idx → F .f32)
    (h : Shape.Concatenates [S1x1024, S32766x1024, S1x1024] S32768x1024 0)
    (hu : ∀ j, u j = rowAt A (j 0).val (j 1).val)
    (hv : ∀ j, v j = st (rowAt A (j 0).val (j 1).val) (rowAt A (1 + (j 0).val) (j 1).val) (rowAt A (2 + (j 0).val) (j 1).val))
    (hw : ∀ j, w j = rowAt A (32767 + (j 0).val) (j 1).val) :
    concatenate S32768x1024 0 [⟨S1x1024, u⟩, ⟨S32766x1024, v⟩, ⟨S1x1024, w⟩] h = smooth A := by
  funext i
  obtain ⟨Hu, Hv, Hw⟩ := laid u v w h i
  have b0 : (i 0).val < 32768 := (i 0).isLt
  have b1 : (i 1).val < 1024 := (i 1).isLt
  show _ = smoothAt A (i 0).val (i 1).val
  unfold smoothAt
  by_cases h0 : (i 0).val = 0
  · rw [if_pos h0, Hu (ix2 (n0 := 1) (n1 := 1024) 0 ⟨(i 1).val, b1⟩) h0 rfl, hu]
    rfl
  rw [if_neg h0]
  by_cases h1 : (i 0).val = 32767
  · rw [if_pos h1, Hw (ix2 (n0 := 1) (n1 := 1024) 0 ⟨(i 1).val, b1⟩) h1 rfl, hw]
    rfl
  rw [if_neg h1, Hv (ix2 (n0 := 32766) (n1 := 1024) ⟨(i 0).val - 1, by omega⟩ ⟨(i 1).val, b1⟩) (show 1 + ((i 0).val - 1) = _ by omega) rfl, hv]
  show st (rowAt A ((i 0).val - 1) (i 1).val) (rowAt A (1 + ((i 0).val - 1)) (i 1).val) (rowAt A (2 + ((i 0).val - 1)) (i 1).val) = _
  rw [show 1 + ((i 0).val - 1) = (i 0).val by omega, show 2 + ((i 0).val - 1) = (i 0).val + 1 by omega]

/-- Every run of the reference ends with the smoothed array in its result and its argument as it was. -/
theorem run_reference (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13) = smooth (m ((c.tc : Thread nD τ).loc main_arg0))
      ∧ r.2.mem ((c.tc : Thread nD τ).loc main_arg0) = m ((c.tc : Thread nD τ).loc main_arg0) :=
  (θ_run defs _ _).mono (fun r h c => ⟨(h c).1.trans (laid_smooth (F := F) (m ((c.tc : Thread nD τ).loc main_arg0)) _ _ _ _
      (fun j => (rows_from 1 0 _ _ j).trans (by rw [Nat.zero_add])) (fun j => inner_rows _ _ _ _ _ j) (fun j => rows_from 1 32767 _ _ j)), (h c).2⟩)
    (Cert.ReferenceIdeal.Value.run m ρ)

end Program

/-! ## A device's result is its block of it -/

section Blocks
open Cert.KernelIdeal Cert.KernelIdeal.Gen

variable (m : (ℓ : Loc nD τ sig) → Buf (Elt F) ℓ) (A : Whole F)

/-- Every device's block of `x` is its block of the whole array. -/
def Cut : Prop := ∀ c : Dev nD, X m c = Layout.block ⟨2, ![4096, 1024]⟩ ⟨2, ![32768, 1024]⟩ 0 8 c A

variable {m A}

omit [FloatOps F] in
/-- Row `r` of device `c`'s block is row `4096 c + r` of the whole. -/
theorem xAt_cut (hA : Cut m A) (c : Dev nD) {r : ℕ} (hr : r < 4096) (l : ℕ) : xAt m c r l = rowAt A (4096 * c.val + r) l := by
  have hc : c.val < 8 := c.isLt
  unfold xAt
  rw [hA c, Layout.block_apply, rowAt_eq A]
  show rowAt A (c.val * 4096 + r % 4096) (l % 1024) = _
  rw [Nat.mod_eq_of_lt hr, Nat.mul_comm]
  unfold rowAt
  congr 2
  exact Fin.ext (Nat.mod_mod l 1024)

/-- Row `r` of device `c`'s result is row `4096 c + r` of the smoothed array. -/
theorem outAt_cut (hA : Cut m A) (c : Dev nD) {r : ℕ} (hr : r < 4096) (l : ℕ) : outAt m c r l = smoothAt A (4096 * c.val + r) l := by
  have hc : c.val < 8 := c.isLt
  unfold outAt smoothAt
  by_cases h0 : r = 0
  · subst h0
    rw [if_pos rfl]
    by_cases hc0 : c.val = 0
    · rw [if_pos hc0, if_pos (by omega), xAt_cut hA c (by omega), hc0]
    · have hp : (prv c).val = c.val - 1 := by show (c.val + 7) % 8 = _; omega
      rw [if_neg hc0, if_neg (by omega), if_neg (by omega), xAt_cut hA _ (by omega), xAt_cut hA c (by omega), xAt_cut hA c (by omega), hp]
      rw [show 4096 * (c.val - 1) + 4095 = 4096 * c.val + 0 - 1 by omega]
  rw [if_neg h0]
  by_cases h1 : r = 4095
  · subst h1
    rw [if_pos rfl]
    by_cases hc7 : c.val = 7
    · rw [if_pos hc7, if_neg (by omega), if_pos (by omega), xAt_cut hA c (by omega), hc7]
    · have hn : (nxt c).val = c.val + 1 := by show (c.val + 1) % 8 = _; omega
      rw [if_neg hc7, if_neg (by omega), if_neg (by omega), xAt_cut hA _ (by omega), xAt_cut hA c (by omega), xAt_cut hA _ (by omega), hn]
      rw [show 4096 * (c.val + 1) + 0 = 4096 * c.val + 4095 + 1 by omega, show 4096 * c.val + 4094 = 4096 * c.val + 4095 - 1 by omega]
  rw [if_neg h1, if_neg (by omega), if_neg (by omega), xAt_cut hA c (by omega), xAt_cut hA c (by omega), xAt_cut hA c (by omega)]
  rw [show 4096 * c.val + (r - 1) = 4096 * c.val + r - 1 by omega, show 4096 * c.val + (r + 1) = 4096 * c.val + r + 1 by omega]

/-- Device `c`'s result is block `c` of the smoothed array. -/
theorem outVal_cut (hA : Cut m A) (c : Dev nD) :
    outVal m c = Layout.block ⟨2, ![4096, 1024]⟩ ⟨2, ![32768, 1024]⟩ 0 8 c (smooth A) := by
  funext i
  have h0 : (i 0).val < 4096 := (i 0).isLt
  show outAt m c (i 0).val (i 1).val = smoothAt A (c.val * 4096 + (i 0).val) (i 1).val
  rw [outAt_cut hA c h0, Nat.mul_comm]

end Blocks

end Cert.Stencil

end
-- ==== Proof.lean ====
/-
The claims, put together: the three programs run and leave their arguments and every semaphore counter as they were, and the
eight devices' results are the blocks of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The kernel as it is printed runs, leaves every device's block of `x` as it was and every counter at zero. -/
theorem frame_kernel : Cert.quiescent_Kernel := fun m ρ _ =>
  (θ_run Cert.KernelIdeal.defs _ _).mono (fun _ h => ⟨fun c => (h.1 c).1, h.2⟩) (Cert.Stencil.run_main (F := Bits) m ρ)

/-- So does the kernel over the extended reals. -/
theorem frame_ideal : Cert.quiescent_KernelIdeal := fun m ρ _ =>
  (θ_run Cert.KernelIdeal.defs _ _).mono (fun _ h => ⟨fun c => (h.1 c).1, h.2⟩) (Cert.Stencil.run_main (F := Ideal) m ρ)

/-- So does the reference; it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.Stencil.run_reference (F := Ideal) m ρ)

/-- From the blocks of one array, the kernel's results are the blocks of the reference's result. -/
theorem agree : Cert.algebraic_KernelIdeal_ReferenceIdeal := fun m ρ m' ρ' _ hcut =>
  ⟨Cert.Stencil.smooth (F := Ideal) (m' (((0 : Dev Cert.ReferenceIdeal.nD).tc : Thread Cert.ReferenceIdeal.nD Cert.ReferenceIdeal.τ).loc Cert.ReferenceIdeal.main_arg0)),
    (θ_run Cert.KernelIdeal.defs _ _).mono (fun _ h c => ⟨(h.1 c).2.trans (Cert.Stencil.outVal_cut (F := Ideal) hcut c), (h.1 c).1⟩)
      (Cert.Stencil.run_main (F := Ideal) m ρ),
    (θ_run Cert.ReferenceIdeal.defs _ _).mono (fun _ h => h 0) (Cert.Stencil.run_reference (F := Ideal) m' ρ')⟩

theorem claim : Cert.Claim := ⟨Cert.Kernel.Gen.facts, Cert.KernelIdeal.Gen.facts, Cert.ReferenceIdeal.Gen.facts,
  frame_kernel, frame_ideal, frame_reference, trivial, agree⟩

end Cert.Proof

end
